-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S512x8192 : Shape := ⟨2, ![512, 8192]⟩
abbrev S8x512x512 : Shape := ⟨3, ![8, 512, 512]⟩
abbrev S3x512x4096 : Shape := ⟨3, ![3, 512, 4096]⟩
abbrev S7 : Shape := ⟨1, ![7]⟩
abbrev S8 : Shape := ⟨1, ![8]⟩
abbrev S3 : Shape := ⟨1, ![3]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x512x4096 : Shape := ⟨3, ![1, 512, 4096]⟩
abbrev S512x4096 : Shape := ⟨2, ![512, 4096]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S512x8192, .f32⟩
  | .local _ .vmem, ⟨0, _⟩ => ⟨S4096x512, .f32⟩
  | .local _ .vmem, ⟨1, _⟩ => ⟨S512x8192, .f32⟩
  | .local _ .vmem, ⟨2, _⟩ => ⟨S4096x512, .bf16⟩
  | .local _ .vmem, ⟨3, _⟩ => ⟨S8x512x512, .bf16⟩
  | .local _ .vmem, ⟨4, _⟩ => ⟨S3x512x4096, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.subi v2 c1_i32_32
  let c8_i32_33 : BitVec 32 := 8#32
  let v39 : BitVec 32 := Scalar.addi v38 c8_i32_33
  let c8_i32_34 : BitVec 32 := 8#32
  let v40 : BitVec 32 := Scalar.remsi v39 c8_i32_34
  let c512_i32 : BitVec 32 := 512#32
  let v41 : BitVec 32 := Scalar.muli v40 c512_i32
  let c0_i32_42 : BitVec 32 := 0#32
  ![v41.toNat, 0]
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v38 : BitVec 32 := Scalar.subi v2 c1_i32_32
  let c8_i32_33 : BitVec 32 := 8#32
  let v39 : BitVec 32 := Scalar.addi v38 c8_i32_33
  let c8_i32_34 : BitVec 32 := 8#32
  let v40 : BitVec 32 := Scalar.remsi v39 c8_i32_34
  let c1_i32_38 : BitVec 32 := 1#32
  let v42 : BitVec 32 := Scalar.muli v40 c1_i32_38
  let v43 : BitVec 32 := Scalar.addi c0_i32_39 v42
  v43.toNat
def k0_dev9 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_43 : BitVec 32 := 2#32
  let v51 : BitVec 32 := Scalar.subi v2 c2_i32_43
  let c8_i32_44 : BitVec 32 := 8#32
  let v52 : BitVec 32 := Scalar.addi v51 c8_i32_44
  let c8_i32_45 : BitVec 32 := 8#32
  let v53 : BitVec 32 := Scalar.remsi v52 c8_i32_45
  let c1_i32_50 : BitVec 32 := 1#32
  let v55 : BitVec 32 := Scalar.muli v53 c1_i32_50
  let v56 : BitVec 32 := Scalar.addi c0_i32_51 v55
  v56.toNat
def k0_dev10 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_55 : BitVec 32 := 3#32
  let v64 : BitVec 32 := Scalar.subi v2 c3_i32_55
  let c8_i32_56 : BitVec 32 := 8#32
  let v65 : BitVec 32 := Scalar.addi v64 c8_i32_56
  let c8_i32_57 : BitVec 32 := 8#32
  let v66 : BitVec 32 := Scalar.remsi v65 c8_i32_57
  let c1_i32_62 : BitVec 32 := 1#32
  let v68 : BitVec 32 := Scalar.muli v66 c1_i32_62
  let v69 : BitVec 32 := Scalar.addi c0_i32_63 v68
  v69.toNat
def k0_off2 (d0 : Dev nD) (c0_i32_67 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v77 : BitVec 32 := Scalar.addi v2 c0_i32_67
  let c8_i32_68 : BitVec 32 := 8#32
  let v78 : BitVec 32 := Scalar.remsi v77 c8_i32_68
  let c512_i32_69 : BitVec 32 := 512#32
  let v79 : BitVec 32 := Scalar.muli v78 c512_i32_69
  let c0_i32_74 : BitVec 32 := 0#32
  ![v79.toNat, 0]
def k0_off3 (d0 : Dev nD) (c0_i32_75 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v85 : BitVec 32 := Scalar.addi v2 c0_i32_75
  let c8_i32_76 : BitVec 32 := 8#32
  let v86 : BitVec 32 := Scalar.remsi v85 c8_i32_76
  let c512_i32_77 : BitVec 32 := 512#32
  let v87 : BitVec 32 := Scalar.muli v86 c512_i32_77
  let c4096_i32 : BitVec 32 := 4096#32
  ![v87.toNat, 4096]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_90 : BitVec 32 := 512#32
  let v101 : BitVec 32 := Scalar.muli v2 c512_i32_90
  let v102 : Index := Scalar.indexCast v101
  let c0_91 : Index := 0#32
  ![v102.toNat, 0]
def k0_dev11 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_133 : BitVec 32 := 4#32
  let v145 : BitVec 32 := Scalar.subi v2 c4_i32_133
  let c8_i32_134 : BitVec 32 := 8#32
  let v146 : BitVec 32 := Scalar.addi v145 c8_i32_134
  let c8_i32_135 : BitVec 32 := 8#32
  let v147 : BitVec 32 := Scalar.remsi v146 c8_i32_135
  let c1_i32_140 : BitVec 32 := 1#32
  let v149 : BitVec 32 := Scalar.muli v147 c1_i32_140
  let v150 : BitVec 32 := Scalar.addi c0_i32_141 v149
  v150.toNat
def k0_dev12 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_205 : BitVec 32 := 5#32
  let v215 : BitVec 32 := Scalar.subi v2 c5_i32_205
  let c8_i32_206 : BitVec 32 := 8#32
  let v216 : BitVec 32 := Scalar.addi v215 c8_i32_206
  let c8_i32_207 : BitVec 32 := 8#32
  let v217 : BitVec 32 := Scalar.remsi v216 c8_i32_207
  let c1_i32_212 : BitVec 32 := 1#32
  let v219 : BitVec 32 := Scalar.muli v217 c1_i32_212
  let v220 : BitVec 32 := Scalar.addi c0_i32_213 v219
  v220.toNat
def k0_dev13 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_278 : BitVec 32 := 6#32
  let v285 : BitVec 32 := Scalar.subi v2 c6_i32_278
  let c8_i32_279 : BitVec 32 := 8#32
  let v286 : BitVec 32 := Scalar.addi v285 c8_i32_279
  let c8_i32_280 : BitVec 32 := 8#32
  let v287 : BitVec 32 := Scalar.remsi v286 c8_i32_280
  let c1_i32_285 : BitVec 32 := 1#32
  let v289 : BitVec 32 := Scalar.muli v287 c1_i32_285
  let v290 : BitVec 32 := Scalar.addi c0_i32_286 v289
  v290.toNat
def k0_dev14 (d0 : Dev nD) : Nat :=
  let c0_i32_358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_350 : BitVec 32 := 7#32
  let v355 : BitVec 32 := Scalar.subi v2 c7_i32_350
  let c8_i32_351 : BitVec 32 := 8#32
  let v356 : BitVec 32 := Scalar.addi v355 c8_i32_351
  let c8_i32_352 : BitVec 32 := 8#32
  let v357 : BitVec 32 := Scalar.remsi v356 c8_i32_352
  let c1_i32_357 : BitVec 32 := 1#32
  let v359 : BitVec 32 := Scalar.muli v357 c1_i32_357
  let v360 : BitVec 32 := Scalar.addi c0_i32_358 v359
  v360.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Common.lean ====
/-
# The exchange of one kernel call, stated over any float values

Eight devices each hold a column block of `x` and the whole of `w`. Every device casts its block, sends seven of its
eight row blocks to the other devices, and multiplies what it holds and what it receives by the matching row blocks of
`w`. This module names the peers, the buffers, the semaphore cells and the values, and states the protocol of the
remote copies: which cell is paid by whom, and what each payment hands over.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's, the exchange's (duties numbered by the seven peers), and local copies' counters -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB (MT nD τ sig Unit (Elt F) ℕ UU ℕ)).LandsIn (upEmb : UEmb _ (MT nD τ sig Unit (Elt F) ℕ UU ℕ)) := by
  unfold ER embR; infer_instance

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## Peers -/

set_option backward.proofsInPublic true in
/-- The device `k + 1` places after `c`. -/
def up (c : Dev nD) (k : Fin 7) : Dev nD := ⟨(c.val + (k.val + 1)) % 8, Nat.mod_lt _ (by decide)⟩
set_option backward.proofsInPublic true in
/-- The device `k + 1` places before `c`. -/
def dn (c : Dev nD) (k : Fin 7) : Dev nD := ⟨(c.val + (7 - k.val)) % 8, Nat.mod_lt _ (by decide)⟩

theorem up_dn (c : Dev nD) (k : Fin 7) : up (dn c k) k = c := by revert c k; decide
theorem dn_up (c : Dev nD) (k : Fin 7) : dn (up c k) k = c := by revert c k; decide

/-! ## Buffers and cells -/

abbrev xM : Memref sig .tc .vmem S4096x512 .f32 := Memref.whole cc0_stg0_0
abbrev oM : Memref sig .tc .vmem S512x8192 .f32 := Memref.whole cc0_stg1_0
abbrev wM : Memref sig .tc .hbm S4096x8192 .f32 := Memref.whole main_arg1
abbrev sM : Memref sig .tc .vmem S4096x512 .bf16 := Memref.whole cc0_scratch0
abbrev rM : Memref sig .tc .vmem S8x512x512 .bf16 := Memref.whole cc0_scratch1
abbrev bM : Memref sig .tc .vmem S3x512x4096 .f32 := Memref.whole cc0_scratch2

theorem slot_inb (j : Fin 8) : ∀ a, (![j.val, 0, 0] : Fin 3 → Nat) a + S1x512x512.size a ≤ S8x512x512.size a := by revert j; decide
theorem ring_inb (j : Fin 3) : ∀ a, (![j.val, 0, 0] : Fin 3 → Nat) a + S1x512x4096.size a ≤ S3x512x4096.size a := by revert j; decide

/-- Slot `j` of the receive buffer, as one `512 × 512` block. -/
abbrev slotM (j : Fin 8) : Memref sig .tc .vmem S512x512 .bf16 :=
  (rM.slice (Rect.unit (s := S8x512x512) ![j.val, 0, 0] S1x512x512.size (slot_inb j)) (fun _ => rfl)).squeeze S512x512 squeezes_S1x512x512_S512x512
/-- Slot `j` of the buffer of `w` blocks. -/
abbrev ringM (j : Fin 3) : Memref sig .tc .vmem S512x4096 .f32 :=
  (bM.slice (Rect.unit (s := S3x512x4096) ![j.val, 0, 0] S1x512x4096.size (ring_inb j)) (fun _ => rfl)).squeeze S512x4096 squeezes_S1x512x4096_S512x4096
/-- The row block of the cast operand that device `c` sends in its send `k`: the receiver's rows. -/
abbrev srcM (c : Dev nD) (k : Fin 7) : Memref sig .tc .vmem S512x512 .bf16 :=
  sM.slice (Rect.unit (s := S4096x512) (k0_off1 c (BitVec.ofNat 32 (1 + k.val))) S512x512.size (k0_off1_inb c k)) (fun _ => rfl)

abbrev barS : Sem sig := (SemArray.scalar (sig.barrier 0 rfl) : Sems sig S_).sem
theorem sem7_inb (k : Fin 7) : ∀ a, (![k.val] : Fin 1 → Nat) a + S1.size a ≤ S7.size a := by revert k; decide
theorem sem8_inb (k : Fin 7) : ∀ a, (![k.val + 1] : Fin 1 → Nat) a + S1.size a ≤ S8.size a := by revert k; decide
/-- The semaphore of send `k`, on the sender. -/
abbrev sendS (k : Fin 7) : DmaSem sig := ((cc0_scratch3.slice (Rect.unit (s := S7) ![k.val] S1.size (sem7_inb k))).squeeze S_ squeezes_S1_S_).sem
/-- The semaphore of send `k`, on the receiver. -/
abbrev recvS (k : Fin 7) : DmaSem sig := ((cc0_scratch4.slice (Rect.unit (s := S8) ![k.val + 1] S1.size (sem8_inb k))).squeeze S_ squeezes_S1_S_).sem

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- Which send a copy semaphore belongs to, and on which side: `false` the sender's, `true` the receiver's. -/
def side (q : DmaSem sig) : Option (Bool × Fin 7) :=
  if h : 2 ≤ q.val ∧ q.val < 9 then some (false, ⟨q.val - 2, by omega⟩)
  else if h : 10 ≤ q.val ∧ q.val < 17 then some (true, ⟨q.val - 10, by omega⟩) else none
theorem side_send (k : Fin 7) : side (sendS k) = some (false, k) := by revert k; decide
theorem side_recv (k : Fin 7) : side (recvS k) = some (true, k) := by revert k; decide

theorem send_ne_bar (k : Fin 7) : (SemLoc.dma (sendS k) : SemLoc sig) ≠ .reg barS := fun h => by cases h

/-- The credit of one `512 × 512` block. -/
abbrev N : ℕ := (slotM 1).view.dmaCredit
theorem N_pos : 0 < N := View.dmaCredit_pos _ (by decide)

/-! ## Contents -/

/-- Device `c`'s block of `x`, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- The same block cast to the copies' format: what the scratch `xs` holds. -/
def xcast (c : Dev nD) : (cc0_scratch0 : Ref sig .tc).ty.Contents (Elt F) := k0_pay1 (xstg m ρ c)

/-- The block that send `k` leaves on device `c`: the sender is `k + 1` places after `c`. -/
def incoming (c : Dev nD) (k : Fin 7) : Vec F S512x512 .bf16 := (srcM (up c k) k).view.read (Elt F) (xcast m ρ (up c k))

def slotPts (c : Dev nD) (j : Fin 8) (f : Buf (Elt F) ((slotM j).view.loc (c : Thread nD τ))) : sProp 𝕄 :=
  (slotM j).view.loc (c : Thread nD τ) ↦[(slotM j).view.set]{fullShare} f
def srcPts (c : Dev nD) (k : Fin 7) : sProp 𝕄 :=
  (srcM c k).view.loc (c : Thread nD τ) ↦[(srcM c k).view.set]{fullShare} xcast m ρ c

/-! ## The schedule -/

/-- What the signal of device `dn c k` to `c` hands over: slot `k + 1` of that device's receive buffer. -/
def barPay (c : Dev nD) (k : Fin 7) : sProp 𝕄 := iprop(∃ f, slotPts (dn c k) k.succ f)
/-- What send `k` leaves on the receiver `c`: the slot, holding the sender's row block. -/
def recvPay (c : Dev nD) (k : Fin 7) : sProp 𝕄 :=
  iprop(∃ f, ⌜(slotM k.succ).view.read (Elt F) f = incoming m ρ c k⌝ ∗ slotPts c k.succ f)

omit [FloatOps F] in
instance slotPts_storable (c : Dev nD) (j) (f) : BI.Storable (upEmb : UEmb _ 𝕄) (slotPts (F := F) c j f) := by unfold slotPts; infer_instance
instance srcPts_storable (c : Dev nD) (k) : BI.Storable (upEmb : UEmb _ 𝕄) (srcPts (F := F) m ρ c k) := by unfold srcPts; infer_instance
omit [FloatOps F] in
instance barPay_storable (c : Dev nD) (k) : BI.Storable (upEmb : UEmb _ 𝕄) (barPay (F := F) c k) := by unfold barPay; infer_instance
instance recvPay_storable (c : Dev nD) (k) : BI.Storable (upEmb : UEmb _ 𝕄) (recvPay (F := F) m ρ c k) := by unfold recvPay; infer_instance

/-- One round. A barrier cell is paid one unit by each of the seven peers; a copy's cell, on either side, the block's
    credit once. -/
def rd : Rounds.Schedule (GSem nD τ sig) (Fin 7) 𝕄 where
  duties g r := if r = 0 ∧ g.1.2 = .tc then
      (match g.2 with
        | .reg s => if s = barS then Finset.univ else ∅
        | .dma q => if (side q).isSome then {0} else ∅)
    else ∅
  unitless _ := False
  amount g _ _ := match g.2 with | .reg _ => 1 | .dma _ => N
  payload g _ d := match g.2 with
    | .reg _ => barPay g.1.1 d
    | .dma q => match side q with
      | none => iprop(emp)
      | some (false, k) => srcPts m ρ g.1.1 k
      | some (true, k) => recvPay m ρ g.1.1 k
  amount_pos g _ _ _ := by
    split
    · exact Nat.one_pos
    · exact N_pos

instance rd_payload_storable (g : GSem nD τ sig) (r : ℕ) (d : Fin 7) : BI.Storable (upEmb : UEmb _ 𝕄) ((rd (F := F) m ρ).payload g r d) := by
  dsimp only [rd]
  (repeat' split) <;> infer_instance

section Sched
variable (c : Dev nD) (k : Fin 7)

theorem duties_bar : (rd (F := F) m ρ).duties (barCell c) 0 = Finset.univ := rfl
theorem duties_send : (rd (F := F) m ρ).duties (sendCell c k) 0 = {0} := by
  dsimp only [rd]; rw [if_pos ⟨rfl, rfl⟩, side_send]; rfl
theorem duties_recv : (rd (F := F) m ρ).duties (recvCell c k) 0 = {0} := by
  dsimp only [rd]; rw [if_pos ⟨rfl, rfl⟩, side_recv]; rfl
theorem duties_later (g : GSem nD τ sig) : ∀ r, 1 ≤ r → (rd (F := F) m ρ).duties g r = ∅ :=
  fun r hr => by dsimp only [rd]; rw [if_neg fun h => by omega]

theorem payload_bar : (rd (F := F) m ρ).payload (barCell c) 0 k = barPay c k := rfl
theorem payload_send (d : Fin 7) : (rd (F := F) m ρ).payload (sendCell c k) 0 d = srcPts m ρ c k := by
  dsimp only [rd]; rw [side_send]
theorem payload_recv (d : Fin 7) : (rd (F := F) m ρ).payload (recvCell c k) 0 d = recvPay m ρ c k := by
  dsimp only [rd]; rw [side_recv]

theorem expect_bar : (rd (F := F) m ρ).expect (barCell c) 0 = 7 := by
  unfold Schedule.expect Schedule.amountOf
  rw [duties_bar]; rfl
theorem expect_send : (rd (F := F) m ρ).expect (sendCell c k) 0 = N := by
  unfold Schedule.expect Schedule.amountOf; rw [duties_send, Finset.sum_singleton]; rfl
theorem expect_recv : (rd (F := F) m ρ).expect (recvCell c k) 0 = N := by
  unfold Schedule.expect Schedule.amountOf; rw [duties_recv, Finset.sum_singleton]; rfl

/-- The whole of a barrier cell's round: the seven peers' slots. -/
theorem rest_bar : bigSep ((rd (F := F) m ρ).duties (barCell c) 0 \ ∅) (fun d => (rd (F := F) m ρ).payload (barCell c) 0 d)
    = bigSep Finset.univ (fun k => barPay c k) := by
  rw [Finset.sdiff_empty, duties_bar]; rfl
theorem rest_send : bigSep ((rd (F := F) m ρ).duties (sendCell c k) 0 \ ∅) (fun d => (rd (F := F) m ρ).payload (sendCell c k) 0 d) = srcPts m ρ c k := by
  rw [Finset.sdiff_empty, duties_send, bigSep_singleton, payload_send]
theorem rest_recv : bigSep ((rd (F := F) m ρ).duties (recvCell c k) 0 \ ∅) (fun d => (rd (F := F) m ρ).payload (recvCell c k) 0 d) = recvPay m ρ c k := by
  rw [Finset.sdiff_empty, duties_recv, bigSep_singleton, payload_recv]

end Sched

/-! ## What a device owes, and the levels -/

/-- The credits of the last `r` sends. The next send's is the last summand. -/
def owedSends (c : Dev nD) : ℕ → CellTallies nD τ sig Unit
  | 0 => 0
  | r + 1 => owedSends c r + tallyAt (recvCell (dn c ⟨6 - r, by omega⟩) ⟨6 - r, by omega⟩) () N

/-- All seven sends' credits and the last `r` signals' units. The next signal's is the last summand. -/
def owedAll (c : Dev nD) : ℕ → CellTallies nD τ sig Unit
  | 0 => owedSends c 7
  | r + 1 => owedAll c r + tallyAt (barCell (up c ⟨6 - r, by omega⟩)) () 1

def L (g : GSem nD τ sig) : Finset Unit := if g.1.2 = .tc then {()} else ∅
/-- Barrier cells at 1, the cell a device receives send `k` on at `k + 2`, everything else at 0. -/
def lv (g : GSem nD τ sig) (_ : Unit) : ℕ := match g.2 with
  | .reg s => if s = barS then 1 else 0
  | .dma q => match side q with | some (true, k) => k.val + 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (k : Fin 7) (u : Unit) : lv (recvCell c k) u = k.val + 2 := by dsimp only [lv]; rw [side_recv]

theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

/-- While `r` sends remain, a device owes receive cells of level `9 - r` and more only. -/
theorem owedSends_pos {c : Dev nD} {r : ℕ} {g : GSem nD τ sig} {u : Unit} (h : 0 < owedSends c r g u) :
    ∃ d k, g = recvCell d k ∧ 7 ≤ k.val + r := by
  induction r with
  | zero => exact absurd h (Nat.lt_irrefl 0)
  | succ r ih =>
    unfold owedSends at h
    rw [Pi.add_apply, Finsupp.add_apply] at h
    rcases Nat.eq_zero_or_pos (owedSends c r g u) with h0 | h0
    · rw [h0, Nat.zero_add] at h
      exact ⟨_, _, tallyAt_pos h, by show 7 ≤ (6 - r) + (r + 1); omega⟩
    · obtain ⟨d, k, hg, hk⟩ := ih h0
      exact ⟨d, k, hg, by omega⟩

theorem owedAll_pos {c : Dev nD} {r : ℕ} {g : GSem nD τ sig} {u : Unit} (h : 0 < owedAll c r g u) :
    (∃ d, g = barCell d) ∨ ∃ d k, g = recvCell d k := by
  induction r with
  | zero => obtain ⟨d, k, hg, -⟩ := owedSends_pos h; exact .inr ⟨d, k, hg⟩
  | succ r ih =>
    unfold owedAll at h
    rw [Pi.add_apply, Finsupp.add_apply] at h
    rcases Nat.eq_zero_or_pos (owedAll c r g u) with h0 | h0
    · rw [h0, Nat.zero_add] at h; exact .inl ⟨_, tallyAt_pos h⟩
    · exact ih h0

/-- A cell of level `n` may be waited for while everything owed lies above it. -/
theorem mayWait_cut (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- A cell of level 0 may be waited for at any time. -/
theorem mayWait_stage (c : Dev nD) (sm : SemLoc sig) (h : lv ((c : Thread nD τ), sm) () = 0) (r : ℕ) :
    (levAts L lv : sProp 𝕄) ⊢ MayWait (c : Thread nD τ) sm () (owedAll c r) :=
  mayWait_cut c sm _ fun g u hg => by
    rw [h]
    rcases owedAll_pos hg with ⟨d, rfl⟩ | ⟨d, k, rfl⟩
    · exact ⟨rfl, by rw [lv_bar]; exact Nat.one_pos⟩
    · exact ⟨rfl, by rw [lv_recv]; omega⟩

theorem mayWait_local (c : Dev nD) (sm : SemLoc sig) (h : lv ((c : Thread nD τ), sm) () = 0) (r : ℕ) :
    (levAts L lv : sProp 𝕄) ⊢ MayWait (c : Thread nD τ) sm () (owedSends c r) :=
  mayWait_cut c sm _ fun g u hg => by
    obtain ⟨d, k, rfl, -⟩ := owedSends_pos hg
    exact ⟨rfl, by rw [h, lv_recv]; omega⟩

/-- At its barrier wait a device owes sends only. -/
theorem mayWait_bar (c : Dev nD) : (levAts L lv : sProp 𝕄) ⊢ MayWait (c : Thread nD τ) (.reg barS) () (owedSends c 7) :=
  mayWait_cut c _ _ fun g u hg => by
    obtain ⟨d, k, rfl, -⟩ := owedSends_pos hg
    exact ⟨rfl, by rw [lv_recv, lv_bar]; omega⟩

/-- A device waits for what send `k` brings while only later sends remain. -/
theorem mayWait_recv (c : Dev nD) (k : Fin 7) (r : ℕ) (h : k.val + r < 7) :
    (levAts L lv : sProp 𝕄) ⊢ MayWait (c : Thread nD τ) (.dma (recvS k)) () (owedSends c r) :=
  mayWait_cut c _ _ fun g u hg => by
    obtain ⟨d, k', rfl, hk⟩ := owedSends_pos hg
    exact ⟨rfl, by rw [lv_recv, lv_recv]; omega⟩

end Cert.Proof
-- ==== Proof.Steps.lean ====
/-
# The remote steps of the exchange

One lemma for each kind of effect that touches another device: the signal to a peer, the wait on the own barrier, the
send of a row block, and the two waits that complete a send, on the sender and on the receiver. Each is stated once,
for peer `k`.
-/
module

public import proofs.«01_k».proof.Proof.Common

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, numbered -/

/-- A device's cells of the exchange: its barrier, and for each peer the two sides of a send. -/
abbrev KC : Type := Option (Bool × Fin 7)

abbrev csem : KC → SemLoc sig
  | none => .reg barS
  | some (false, k) => .dma (sendS k)
  | some (true, k) => .dma (recvS k)
abbrev kcell (ck : Dev nD × KC) : GSem nD τ sig := ((ck.1 : Thread nD τ), csem ck.2)

/-- Every cell's invariant, at some names, and that every cell has reached its round. -/
def records (K : Dev nD × KC → ℕ) : sProp 𝕄 :=
  iprop((bigSep Finset.univ fun ck : Dev nD × KC => cellInv ER (rd m ρ) (K ck) (kcell ck))
    ∗ bigSep Finset.univ fun ck : Dev nD × KC => reached ER (kcell ck) 0)

instance records_persistent (K : Dev nD × KC → ℕ) : BI.Persistent (records m ρ K) := by unfold records; infer_instance

variable (K : Dev nD × KC → ℕ)

theorem inv_at (ck : Dev nD × KC) : records m ρ K ⊢ cellInv ER (rd m ρ) (K ck) (kcell ck) := by
  unfold records
  have h : (bigSep Finset.univ fun ck : Dev nD × KC => (cellInv ER (rd m ρ) (K ck) (kcell ck) : sProp 𝕄)) ⊢ cellInv ER (rd m ρ) (K ck) (kcell ck) :=
    bigSep_elim (Finset.mem_univ ck)
  iintro ⟨H, -⟩
  iapply h; iexact H
theorem reached_at (ck : Dev nD × KC) : records m ρ K ⊢ reached ER (kcell ck) 0 := by
  unfold records
  have h : (bigSep Finset.univ fun ck : Dev nD × KC => (reached ER (kcell ck) 0 : sProp 𝕄)) ⊢ reached ER (kcell ck) 0 :=
    bigSep_elim (Finset.mem_univ ck)
  iintro ⟨-, H⟩
  iapply h; iexact H

section Steps
variable (c : Dev nD) (W : Waits sig Unit)

/-- The signal to the peer `k + 1` places after `c`, handing over slot `k + 1` of `c`'s receive buffer. -/
theorem wp_signal_peer {α : Type} {Q : α → sProp 𝕄} {p : PUnit → Prog (TpuEff nD τ sig (Elt F) Λ₀ .tc) α} (k : Fin 7) (n : Dev nD) (hn : n = up c k) (a : ℕ) (ha : a = 1) (O : CellTallies nD τ sig Unit) :
    iprop(records m ρ K ∗ owes (c : Thread nD τ) (O + tallyAt (barCell (up c k)) () 1) W
        ∗ dutyTok ER (barCell (up c k)) 0 k ∗ ∃ f, slotPts c k.succ f)
      ⊢ iprop((owes (c : Thread nD τ) O W -∗ wp frame (wpE (defs₀ (F := F)) Variants.none (c : Thread nD τ) none) Set.univ (p ⟨⟩) Q) -∗ wp frame (wpE (defs₀ (F := F)) Variants.none (c : Thread nD τ) none) Set.univ (.op (.semSignal (n : Thread nD τ) barS a) p) Q) := by
  subst hn ha
  iintro ⟨#HR, HO, Ht, Hs⟩
  iapply (Rounds.wp_signal Variants.none ER (rd m ρ) (c : Thread nD τ) none (dst := (up c k : Thread nD τ)) (κ := K (up c k, none))
    (d := k) (r := 0) (by rw [duties_bar]; exact Finset.mem_univ _) rfl () O rfl)
  isplitr; · iapply (inv_at m ρ K (up c k, none)); iexact HR
  isplitl [HO]; · iexact HO
  isplitl [Ht]; · iexact Ht
  isplitl [Hs]
  · rw [payload_bar]; unfold barPay; rw [dn_up]; iexact Hs
  iapply (reached_at m ρ K (up c k, none)); iexact HR

/-- The wait for all seven peers: their slots come with it. -/
theorem wp_wait_peers {α : Type} {Q : α → sProp 𝕄} {p : PUnit → Prog (TpuEff nD τ sig (Elt F) Λ₀ .tc) α} (a : ℕ) (ha : a = 7) :
    iprop(records m ρ K ∗ levAts L lv ∗ cred (tallyAt (barCell c) () 7) ∗ owes (c : Thread nD τ) (owedSends c 7) W ∗ atPos ER (barCell c) 0 ∅ 0)
      ⊢ iprop(((owes (c : Thread nD τ) (owedSends c 7) (insert (SemLoc.reg barS, ()) W) ∗ atPos ER (barCell c) 1 ∅ 0
            ∗ bigSep Finset.univ fun k => barPay c k) -∗ wp frame (wpE (defs₀ (F := F)) Variants.none (c : Thread nD τ) none) Set.univ (p ⟨⟩) Q)
          -∗ wp frame (wpE (defs₀ (F := F)) Variants.none (c : Thread nD τ) none) Set.univ (.op (.semWait barS a) p) Q) := by
  subst ha
  iintro ⟨#HR, #Hlev, Hc, HO, Hat⟩ Hk
  iapply (Rounds.wp_wait_rest_token Variants.none ER (rd m ρ) (c : Thread nD τ) none (κ := K (c, none))
      (wpE_semWait_eq Variants.none (c : Thread nD τ) none Set.univ) (Set.mem_univ _) () (O := owedSends c 7) (W := W) (R := 0) (m := 0) (T := ∅)
      (by rw [expect_bar])) $$ [Hc HO Hat]
  · isplitr; · iapply (inv_at m ρ K (c, none)); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m ρ c)); iexact Hpay

/-- The block that arrives is the sender's row block. -/
theorem landed (k : Fin 7) (f : Buf (Elt F) ((slotM k.succ).view.loc (dn c k : Thread nD τ))) :
    slotPts (dn c k) k.succ ((slotM k.succ).view.write (Elt F) f ((srcM c k).view.read (Elt F) (xcast m ρ c)) Finset.univ)
      ⊢ recvPay m ρ (dn c k) k := by
  unfold recvPay incoming
  rw [up_dn]
  iintro H
  iexists _
  isplitr
  · ipureintro; exact View.read_write_univ f _
  iexact H

/-- Send `k`: the row block of the device `k + 1` places before `c` goes into slot `k + 1` of that device. -/
theorem wp_send_peer {α : Type} {Q : α → sProp 𝕄} {p : PUnit → Prog (TpuEff nD τ sig (Elt F) Λ₀ .tc) α} (k : Fin 7) (n : Dev nD) (hn : n = dn c k)
    {hsc : (slotM k.succ : Memref sig (Dev.tc n : Thread nD τ).2.kind .vmem S512x512 .bf16).view.ref.isScScratch = false}
    {hsrc : (srcM c k).view.WordExact} {hdst : (slotM k.succ).view.WordExact}
    {hsem : DmaTarget.Typed .vmem (.dma (recvS k)) (.remote (Dev.tc n : Thread nD τ) (slotM k.succ) (.dma (sendS k)) hsc)}
    (O : CellTallies nD τ sig Unit) :
    iprop(records m ρ K ∗ owes (c : Thread nD τ) (O + tallyAt (recvCell (dn c k) k) () N) W
        ∗ srcPts m ρ c k ∗ barPay c k ∗ dutyTok ER (sendCell c k) 0 0 ∗ dutyTok ER (recvCell (dn c k) k) 0 0)
      ⊢ iprop(((cred (tallyAt (sendCell c k) () N) ∗ owes (c : Thread nD τ) O W) -∗ wp frame (wpE (defs₀ (F := F)) Variants.none (c : Thread nD τ) none) Set.univ (p ⟨⟩) Q)
          -∗ wp frame (wpE (defs₀ (F := F)) Variants.none (c : Thread nD τ) none) Set.univ (.op (.enqueueDma (srcM c k) (.remote (Dev.tc n : Thread nD τ) (slotM k.succ) (.dma (sendS k)) hsc) (.dma (recvS k)) hsrc hdst hsem) p) Q) := by
  subst hn
  unfold barPay srcPts slotPts
  iintro ⟨#HR, HO, Hx, ⟨%f, Hs⟩, Ht1, Ht2⟩
  iapply (Rounds.wp_send_pointsTo Variants.none ER (rd m ρ) (c : Thread nD τ) none (κ₁ := K (c, some (false, k))) (κ₂ := K (dn c k, some (true, k)))
    (r₁ := 0) (r₂ := 0) (d₁ := 0) (d₂ := 0) (fd := f)
    (by rw [duties_send]; exact Finset.mem_singleton_self _) (by rw [duties_recv]; exact Finset.mem_singleton_self _)
    () () N rfl rfl rfl O rfl (W := W)
    (by rw [payload_send]; unfold srcPts; exact BI.Entails.refl _)
    (by rw [payload_recv]; exact landed m ρ c k f))
  isplitr; · iapply (inv_at m ρ K (c, some (false, k))); iexact HR
  isplitr; · iapply (inv_at m ρ K (dn c k, some (true, k))); iexact HR
  isplitl [Hx]; · iexact Hx
  isplitl [Hs]; · iexact Hs
  isplitl [HO]; · iexact HO
  isplitl [Ht1]; · iexact Ht1
  isplitr; · iapply (reached_at m ρ K (c, some (false, k))); iexact HR
  isplitl [Ht2]; · iexact Ht2
  iapply (reached_at m ρ K (dn c k, some (true, k))); iexact HR

/-- The wait on the sender's side of send `k`, with nothing owed: the row block comes back, and the cell is closed. -/
theorem wp_wait_send {α : Type} {Q : α → sProp 𝕄} {p : PUnit → Prog (TpuEff nD τ sig (Elt F) Λ₀ .tc) α} (k : Fin 7) {sp sp' : Space} {s s' : Shape} {e e' : EltTy} {src : Memref sig .tc sp' s' e'} {dst : Memref sig .tc sp s e}
    {hsrc : src.view.WordExact} {hdst : dst.view.WordExact} (hd : dst.view.dmaCredit = N) :
    iprop(records m ρ K ∗ cred (tallyAt (sendCell c k) () N) ∗ (∃ W, owes (c : Thread nD τ) 0 W) ∗ atPos ER (sendCell c k) 0 ∅ 0)
      ⊢ iprop(((∃ W, owes (c : Thread nD τ) 0 W) ∗ semVal (sendCell c k) 0 ∗ srcPts m ρ c k -∗ wp frame (wpE (defs₀ (F := F)) Variants.none (c : Thread nD τ) none) Set.univ (p ⟨⟩) Q)
          -∗ wp frame (wpE (defs₀ (F := F)) Variants.none (c : Thread nD τ) none) Set.univ (.op (.waitDma2 (sendS k) src dst hsrc hdst) p) Q) := by
  iintro ⟨#HR, Hc, ⟨%W, HO⟩, Hat⟩ Hk
  iapply (Rounds.wp_wait_rest_token Variants.none ER (rd m ρ) (c : Thread nD τ) none (κ := K (c, some (false, k)))
      (wpE_waitDma2_eq Variants.none (c : Thread nD τ) none Set.univ) (Set.mem_univ _) () (O := 0) (W := W) (R := 0) (m := 0) (T := ∅)
      (by rw [hd, Nat.zero_add, expect_send])) $$ [Hc HO Hat]
  · isplitr; · iapply (inv_at m ρ K (c, some (false, k))); iexact HR
    isplitl [Hc]; · rw [hd]; iexact Hc
    isplitl [HO]; · iexact HO
    isplitr; · rw [MayWait_zero]; iempintro
    iexact Hat
  iintro ⟨HO, Hat, -, Hpay⟩
  ihave #HI := (inv_at m ρ K (c, some (false, k))) $$ HR
  imod (Rounds.cell_close ER (rd m ρ) (Set.mem_univ (K (c, some (false, k)))) (fun h => h) (R := 0 + 1) (duties_later m ρ (sendCell c k))) $$ [Hat] with Hz
  · isplitr; · iexact HI
    iexact Hat
  iapply Hk
  isplitl [HO]; · iexists _; iexact HO
  isplitl [Hz]; · iexact Hz
  iapply (Entails.of_eq (rest_send m ρ c k)); iexact Hpay

/-- The wait on the receiver's side of send `k`, owing later sends only: the slot comes with the sender's row block,
    and the cell is closed. -/
theorem wp_wait_recv {α : Type} {Q : α → sProp 𝕄} {p : PUnit → Prog (TpuEff nD τ sig (Elt F) Λ₀ .tc) α} (k : Fin 7) (r : ℕ) (hr : k.val + r < 7) {sp sp' : Space} {s s' : Shape} {e e' : EltTy} {src : Memref sig .tc sp' s' e'} {dst : Memref sig .tc sp s e}
    {hsrc : src.view.WordExact} {hdst : dst.view.WordExact} (hd : dst.view.dmaCredit = N) :
    iprop(records m ρ K ∗ levAts L lv ∗ cred (tallyAt (recvCell c k) () N) ∗ owes (c : Thread nD τ) (owedSends c r) W ∗ atPos ER (recvCell c k) 0 ∅ 0)
      ⊢ iprop((owes (c : Thread nD τ) (owedSends c r) (insert (SemLoc.dma (recvS k), ()) W) ∗ semVal (recvCell c k) 0 ∗ recvPay m ρ c k -∗ wp frame (wpE (defs₀ (F := F)) Variants.none (c : Thread nD τ) none) Set.univ (p ⟨⟩) Q)
          -∗ wp frame (wpE (defs₀ (F := F)) Variants.none (c : Thread nD τ) none) Set.univ (.op (.waitDma2 (recvS k) src dst hsrc hdst) p) Q) := by
  iintro ⟨#HR, #Hlev, Hc, HO, Hat⟩ Hk
  iapply (Rounds.wp_wait_rest_token Variants.none ER (rd m ρ) (c : Thread nD τ) none (κ := K (c, some (true, k)))
      (wpE_waitDma2_eq Variants.none (c : Thread nD τ) none Set.univ) (Set.mem_univ _) () (O := owedSends c r) (W := W) (R := 0) (m := 0) (T := ∅)
      (by rw [hd, Nat.zero_add, expect_recv])) $$ [Hc HO Hat]
  · isplitr; · iapply (inv_at m ρ K (c, some (true, k))); iexact HR
    isplitl [Hc]; · rw [hd]; iexact Hc
    isplitl [HO]; · iexact HO
    isplitr; · iapply (mayWait_recv c k r hr); iexact Hlev
    iexact Hat
  iintro ⟨HO, Hat, -, Hpay⟩
  ihave #HI := (inv_at m ρ K (c, some (true, k))) $$ HR
  imod (Rounds.cell_close ER (rd m ρ) (Set.mem_univ (K (c, some (true, k)))) (fun h => h) (R := 0 + 1) (duties_later m ρ (recvCell c k))) $$ [Hat] with Hz
  · isplitr; · iexact HI
    iexact Hat
  iapply Hk
  isplitl [HO]; · iexact HO
  isplitl [Hz]; · iexact Hz
  iapply (Entails.of_eq (rest_recv m ρ c k)); iexact Hpay

end Steps

end Cert.Proof
-- ==== Proof.Flat.lean ====
/-
# The kernel's body as one loop

The printed body lists its effects one after another. Here the same list is written with its regularities: seven
signals, a wait, seven sends, eight groups of two half steps, seven closing waits. The two are the same program.
-/
module

public import proofs.«01_k».proof.Proof.Steps

@[expose] public section

noncomputable section

namespace Cert.Proof

open Cert.KernelIdeal Cert.KernelIdeal.Gen

open Idealize.ShloMosaic
open Idealize.ShloMosaic.TcCoe
open Idealize.SL Idealize.SL.Sem

variable {F : FTy → Type} [FloatOps F]

/-- The programs of one core. -/
abbrev P (F : FTy → Type) [FloatOps F] (α : Type) : Type 1 := Prog (TpuEff nD τ sig (Elt F) Λ₀ .tc) α

/-- Run `p` at every member of a list, in order. -/
def each {ι : Type} (l : List ι) (p : ι → P F PUnit) : P F PUnit :=
  l.foldr (fun i q => (p i).bind fun _ => q) (pure ⟨⟩)

/-! ## The remote effects -/

/-- The printed name of the device `k + 1` places after. -/
def upName (c : Dev nD) : Fin 7 → Dev nD
  | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩
  | 4 => ⟨k0_dev5 c, k0_dev5_lt c⟩ | 5 => ⟨k0_dev6 c, k0_dev6_lt c⟩ | 6 => ⟨k0_dev7 c, k0_dev7_lt c⟩
/-- The printed name of the device `k + 1` places before. -/
def dnName (c : Dev nD) : Fin 7 → Dev nD
  | 0 => ⟨k0_dev8 c, k0_dev8_lt c⟩ | 1 => ⟨k0_dev9 c, k0_dev9_lt c⟩ | 2 => ⟨k0_dev10 c, k0_dev10_lt c⟩ | 3 => ⟨k0_dev11 c, k0_dev11_lt c⟩
  | 4 => ⟨k0_dev12 c, k0_dev12_lt c⟩ | 5 => ⟨k0_dev13 c, k0_dev13_lt c⟩ | 6 => ⟨k0_dev14 c, k0_dev14_lt c⟩

theorem srcM_words (c : Dev nD) (k : Fin 7) : (srcM c k).view.WordExact :=
  (Memref.isWhole_whole (sig := sig) cc0_scratch0).wordExact_slice rfl _ (k0_off1_wordsbf16 c k)
theorem slot_words : ∀ k : Fin 7, (Rect.unit (s := S8x512x512) ![k.succ.val, 0, 0] S1x512x512.size (slot_inb k.succ)).WholeWords (EltTy.packing .bf16)
  | 0 => wordsbf16_S8x512x512_S1x512x512_1_0_0 | 1 => wordsbf16_S8x512x512_S1x512x512_2_0_0 | 2 => wordsbf16_S8x512x512_S1x512x512_3_0_0
  | 3 => wordsbf16_S8x512x512_S1x512x512_4_0_0 | 4 => wordsbf16_S8x512x512_S1x512x512_5_0_0 | 5 => wordsbf16_S8x512x512_S1x512x512_6_0_0
  | 6 => wordsbf16_S8x512x512_S1x512x512_7_0_0
theorem slotM_words (k : Fin 7) : (slotM k.succ).view.WordExact :=
  ((Memref.isWhole_whole (sig := sig) cc0_scratch1).wordExact_slice rfl _ (slot_words k)).reshape _ _

def signalP (c : Dev nD) (k : Fin 7) : P F PUnit := semSignalWord (upName c k) barS 1#32
def sendP (c : Dev nD) (k : Fin 7) : P F PUnit :=
  Prog.lift (.enqueueDma (srcM c k) (.remote (Dev.tc (dnName c k)) (slotM k.succ) (.dma (sendS k))) (.dma (recvS k)) (srcM_words c k) (slotM_words k)
    ⟨⟨rfl, Or.inl rfl⟩, trivial⟩)
def waitRecvP (k : Fin 7) : P F PUnit :=
  Prog.lift (.waitDma2 (recvS k) (slotM k.succ) (slotM k.succ) (slotM_words k) (slotM_words k))
def waitSendP (c : Dev nD) (k : Fin 7) : P F PUnit :=
  Prog.lift (.waitDma2 (sendS k) (slotM k.succ) (srcM c k) (slotM_words k) (srcM_words c k))

/-! ## The local effects -/

/-- Where group `t`'s block of `w` starts: its rows, and the half of the columns. -/
def woff (c : Dev nD) (t : Fin 8) : Bool → Fin 2 → ℕ
  | false => k0_off2 c (BitVec.ofNat 32 t.val)
  | true => k0_off3 c (BitVec.ofNat 32 t.val)
theorem woff_inb (c : Dev nD) (t : Fin 8) : ∀ (h : Bool) a, woff c t h a + S512x4096.size a ≤ S4096x8192.size a
  | false => k0_off2_inb c t
  | true => k0_off3_inb c t
/-- The block of `w` that group `t` multiplies by, half `h`. -/
abbrev wsrcM (c : Dev nD) (t : Fin 8) (h : Bool) : Memref sig .tc .hbm S512x4096 .f32 :=
  wM.slice (Rect.unit (s := S4096x8192) (woff c t h) S512x4096.size (woff_inb c t h)) (fun _ => rfl)
theorem sem3_inb (j : Fin 3) : ∀ a, (![j.val] : Fin 1 → Nat) a + S1.size a ≤ S3.size a := by revert j; decide
/-- The semaphore of the copies into slot `j` of the buffer of `w` blocks. -/
abbrev wS (j : Fin 3) : DmaSem sig := ((cc0_scratch5.slice (Rect.unit (s := S3) ![j.val] S1.size (sem3_inb j))).squeeze S_ squeezes_S1_S_).sem

theorem wsrcM_words (c : Dev nD) (t : Fin 8) (h : Bool) : (wsrcM c t h).view.WordExact := View.wordExact_bits rfl
theorem ringM_words (j : Fin 3) : (ringM j).view.WordExact := (View.wordExact_bits rfl).reshape _ _

/-- The slot of the `s`-th block of `w`: the three slots in turn. -/
abbrev rix (s : ℕ) : Fin 3 := ⟨s % 3, Nat.mod_lt _ (by decide)⟩
/-- The number of the block of group `t` and half `h`. -/
abbrev sno (t : Fin 8) (h : Bool) : ℕ := 2 * t.val + h.toNat

def startW (c : Dev nD) (t : Fin 8) (h : Bool) : P F PUnit :=
  Prog.lift (.enqueueDma (wsrcM c t h) (.here (ringM (rix (sno t h)))) (.dma (wS (rix (sno t h)))) (wsrcM_words c t h) (ringM_words _) ⟨Or.inl rfl, trivial⟩)
def waitW (c : Dev nD) (t : Fin 8) (h : Bool) : P F PUnit :=
  Prog.lift (.waitDma2 (wS (rix (sno t h))) (wsrcM c t h) (ringM (rix (sno t h))) (wsrcM_words c t h) (ringM_words _))

/-- Start the copy of the block three after that of group `t` and half `h`, if there is one. -/
def startNext (c : Dev nD) (t : Fin 8) : Bool → P F PUnit
  | false => if h : t.val + 1 < 8 then startW c ⟨t.val + 1, h⟩ true else pure ⟨⟩
  | true => if h : t.val + 2 < 8 then startW c ⟨t.val + 2, h⟩ false else pure ⟨⟩

theorem half_inb : ∀ (h : Bool) a, (![0, if h then 4096 else 0] : Fin 2 → Nat) a + S512x4096.size a ≤ S512x8192.size a := by decide
/-- The half `h` of the columns of the result. -/
abbrev halfR (h : Bool) : Rect S512x8192 := Rect.unit (s := S512x8192) ![0, if h then 4096 else 0] S512x4096.size (half_inb h)
abbrev ringR (j : Fin 3) : Rect S3x512x4096 := Rect.unit (s := S3x512x4096) ![j.val, 0, 0] S1x512x4096.size (ring_inb j)
abbrev slotR (j : Fin 8) : Rect S8x512x512 := Rect.unit (s := S8x512x512) ![j.val, 0, 0] S1x512x512.size (slot_inb j)
abbrev ownR (c : Dev nD) : Rect S4096x512 := Rect.unit (s := S4096x512) (k0_off4 c) S512x512.size (k0_off4_inb c)
abbrev allR : Rect S4096x512 := Rect.unit (s := S4096x512) ![0, 0] S4096x512.size inb_S4096x512_S4096x512_0_0

def loadRing (j : Fin 3) : P F (Vec F S1x512x4096 .f32) :=
  Prog.lift (.load bM (ringR j).toLoadRect (View.loadsAt_vmem h_S1x512x4096))
def loadSlot (k : Fin 7) : P F (Vec F S1x512x512 .bf16) :=
  Prog.lift (.load rM (slotR k.succ).toLoadRect (View.loadsAt_vmem h_S1x512x512))
def loadOut (h : Bool) : P F (Vec F S512x4096 .f32) :=
  Prog.lift (.load oM (halfR h).toLoadRect (View.loadsAt_vmem h_S512x4096))
def storeOut (h : Bool) (v : FVec F S512x4096 .f32) : P F PUnit :=
  Prog.lift (.store oM (halfR h) v Finset.univ (View.stores_vmem_bits_univ h_S512x4096 rfl) (.inl rfl))

/-- What group `t` stores: the product, added to what was there but in the first group, clamped at zero in the last. -/
def stepVal (t : Fin 8) (x : FVec F S512x512 .f32) (w : Vec F S1x512x4096 .f32) (o : Vec F S512x4096 .f32) : FVec F S512x4096 .f32 :=
  if t.val = 0 then k0_pay3 x w else if t.val = 7 then k0_pay28 x w o else k0_pay7 x w o

/-- One half step: wait for the block of `w`, multiply, store, start the copy that takes the freed slot. -/
def half (c : Dev nD) (t : Fin 8) (h : Bool) (x : FVec F S512x512 .f32) : P F PUnit :=
  (waitW c t h).bind fun _ => (loadRing (rix (sno t h))).bind fun w => (loadOut h).bind fun o =>
  (if t.val = 0 then pure o else loadOut h).bind fun _ => (storeOut h (stepVal t x w o)).bind fun _ => startNext c t h

/-- Group `t ≥ 1`'s operand: received by copy `t - 1`. -/
def received (k : Fin 7) : P F (FVec F S512x512 .f32) :=
  (waitRecvP k).bind fun _ => (loadSlot k).bind fun v => pure (k0_pay5 v)

/-- A group: its two half steps on one operand, then the next send if one is left. -/
def group (c : Dev nD) (t : Fin 8) (x : FVec F S512x512 .f32) : P F PUnit :=
  (half c t false x).bind fun _ => (half c t true x).bind fun _ => if h : t.val < 4 then sendP c ⟨t.val + 3, by omega⟩ else pure ⟨⟩

def flatAt (c : Dev nD) : P F PUnit :=
  (each [0, 1, 2, 3, 4, 5, 6] (signalP c)).bind fun _ =>
  (semWaitWord barS 7#32).bind fun _ =>
  (Prog.lift (.load xM allR.toLoadRect (View.loadsAt_vmem h_S4096x512))).bind fun (x : Vec F S4096x512 .f32) =>
  (Prog.lift (.load sM allR.toLoadRect (View.loadsAt_vmem h_S4096x512))).bind fun (_ : Vec F S4096x512 .bf16) =>
  (Prog.lift (.store sM allR (k0_pay1 x) Finset.univ
    (View.stores_vmem h_S4096x512 ((Memref.isWhole_whole (sig := sig) cc0_scratch0).storeExact_slice rfl _ packedbf16_S4096x512_S4096x512_0_0) (fun _ => rfl)) (.inl rfl))).bind fun _ =>
  (each [0, 1, 2] (sendP c)).bind fun _ =>
  (startW c 0 false).bind fun _ => (startW c 0 true).bind fun _ => (startW c 1 false).bind fun _ =>
  (Prog.lift (.load xM (ownR c).toLoadRect (View.loadsAt_vmem h_S512x512))).bind fun (v : Vec F S512x512 .f32) =>
  (group c 0 (k0_pay2 v)).bind fun _ =>
  (each [0, 1, 2, 3, 4, 5, 6] (fun k : Fin 7 => (received k).bind fun x => group c k.succ x)).bind fun _ =>
  each [0, 1, 2, 3, 4, 5, 6] (waitSendP c)

/-- The body, written with its regularities. -/
def flat : P F PUnit := (Prog.lift .deviceId).bind fun (c : Dev nD) => flatAt c

set_option maxRecDepth 65536 in
set_option maxHeartbeats 4000000 in
/-- The printed body is this program. -/
theorem body_flat : cc0_body (F := F) xM (Memref.isWhole_whole _) wM (Memref.isWhole_whole _) oM (Memref.isWhole_whole _) sM (Memref.isWhole_whole _)
    rM (Memref.isWhole_whole _) bM (Memref.isWhole_whole _) cc0_scratch3 cc0_scratch4 cc0_scratch5 = flat := by
  rw [cc0_body_eq_skeleton]
  rfl

end Cert.Proof
-- ==== Proof.Local.lean ====
/-
# The half step

What a device holds of the copies of `w` into its three slots and of its result, and the half step that waits for a
block of `w`, multiplies by it, stores, and starts the next copy into the slot that became free.
-/
module

public import proofs.«01_k».proof.Proof.Flat

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A program of device `c`'s core, run to a postcondition. -/
abbrev Wp (c : Dev nD) {α : Type} (p : P F α) (Q : α → sProp 𝕄) : sProp 𝕄 :=
  wp frame (wpE (defs₀ (F := F)) Variants.none (c : Thread nD τ) none) Set.univ p Q

theorem lift_bind {α β : Type} (e : TpuEff nD τ sig (Elt F) Λ₀ .tc α) (k : α → P F β) : (Prog.lift e).bind k = .op e k := rfl
theorem ret_bind {α β : Type} (a : α) (k : α → P F β) : (pure a : P F α).bind k = k a := rfl
theorem bind_bind {α β γ : Type} (p : P F α) (f : α → P F β) (g : β → P F γ) :
    (p.bind f).bind g = p.bind fun a => (f a).bind g := Prog.bind_assoc p f g

/-- The copies' counters, in the resource algebra. -/
abbrev EC : UEmb Counters 𝕄 := countersEmb

/-! ## The blocks of `w` -/

/-- The share of `w` that the copies into slot `j` read. -/
abbrev wq (j : Fin 3) : PosShare TreeShare := Transfers.shareTok fullShare 3 j
/-- What `w` holds. -/
abbrev wc (c : Dev nD) : Buf (Elt F) (wM.view.loc (c : Thread nD τ)) := m ((c : Thread nD τ).loc main_arg1)
/-- The block of `w` that group `t` multiplies by, half `h`. -/
def wblk (c : Dev nD) (t : Fin 8) (h : Bool) : Vec F S512x4096 .f32 := (wsrcM c t h).view.read (Elt F) (wc m c)

def ringPts (c : Dev nD) (j : Fin 3) (f : Buf (Elt F) ((ringM j).view.loc (c : Thread nD τ))) : sProp 𝕄 :=
  (ringM j).view.loc (c : Thread nD τ) ↦[(ringM j).view.set]{fullShare} f

/-- Slot `j` idle: its counter at zero, the slot at any contents, and its share of `w`. -/
def idle (c : Dev nD) (j : Fin 3) : sProp 𝕄 :=
  iprop(semVal ((c : Thread nD τ), SemLoc.dma (wS j)) 0 ∗ (∃ f, ringPts c j f) ∗ (wM.view.loc (c : Thread nD τ) ↦[Finset.univ]{wq j} wc m c))

/-- What the copy of a block leaves: the slot holding it. -/
def filled (c : Dev nD) (t : Fin 8) (h : Bool) : sProp 𝕄 :=
  iprop(∃ f, ⌜(ringM (rix (sno t h))).view.read (Elt F) f = wblk m c t h⌝ ∗ ringPts c (rix (sno t h)) f)

/-- The copy of a block in flight. -/
def flying (c : Dev nD) (t : Fin 8) (h : Bool) : sProp 𝕄 :=
  iprop(Transfers.Flight EC (c : Thread nD τ) (.dma (wS (rix (sno t h)))) () (ringM (rix (sno t h))).view.dmaCredit
      iprop(filled m c t h ∗ (wM.view.loc (c : Thread nD τ) ↦[(wsrcM c t h).view.set]{wq (rix (sno t h))} wc m c))
    ∗ (wM.view.loc (c : Thread nD τ) ↦[Finset.univ \ (wsrcM c t h).view.set]{wq (rix (sno t h))} wc m c))

/-- The slot of block `2 t + h`: its copy in flight, or idle after the last block. -/
def turn (c : Dev nD) (t : ℕ) (h : Bool) : sProp 𝕄 :=
  if ht : t < 8 then flying m c ⟨t, ht⟩ h else idle m c (rix (2 * t + h.toNat))

theorem ring_lv (c : Dev nD) (j : Fin 3) : lv ((c : Thread nD τ), SemLoc.dma (wS j)) () = 0 := by
  revert j; intro j; dsimp only [lv]; revert j; decide

theorem wp_start {α : Type} {Q : α → sProp 𝕄} {k : PUnit → P F α} (c : Dev nD) (t : Fin 8) (h : Bool) :
    idle m c (rix (sno t h)) ⊢ iprop((flying m c t h -∗ Wp c (k ⟨⟩) Q) -∗ Wp c ((startW c t h).bind k) Q) := by
  unfold startW idle flying
  rw [lift_bind]
  iintro ⟨Hv, ⟨%f, Hd⟩, Hw⟩ Hk
  ihave Hw := (pointsTo_split_subset (Finset.subset_univ (wsrcM c t h).view.set)).1 $$ Hw
  icases Hw with ⟨Hs, Hr⟩
  unfold ringPts
  iapply (Transfers.wp_dmaLocal EC Variants.none (c : Thread nD τ) none (src := wsrcM c t h) (dst := ringM (rix (sno t h)))
    () _ rfl (View.dmaCredit_pos _ (by decide)) (Finset.Subset.refl _)) $$ [Hs Hd Hv]
  · isplitl [Hs]; · iexact Hs
    isplitl [Hd]; · iexact Hd
    iexact Hv
  iintro HF
  iapply Hk
  isplitr [Hr]
  · iapply (Transfers.Flight_mono EC (c : Thread nD τ) (D' := iprop(filled m c t h ∗ (wM.view.loc (c : Thread nD τ) ↦[(wsrcM c t h).view.set]{wq (rix (sno t h))} wc m c))) ?_) $$ HF
    unfold filled ringPts
    iintro ⟨Hd, Hs⟩
    isplitl [Hd]
    · iexists _
      isplitr
      · ipureintro; exact View.read_write_univ f _
      iexact Hd
    · iexact Hs
  iexact Hr

theorem wp_waitW {α : Type} {Q : α → sProp 𝕄} {k : PUnit → P F α} (c : Dev nD) (t : Fin 8) (h : Bool) (r : ℕ) :
    iprop(levAts L lv ∗ (∃ W, owes (c : Thread nD τ) (owedSends c r) W) ∗ turn m c t.val h)
      ⊢ iprop(((∃ W, owes (c : Thread nD τ) (owedSends c r) W)
          ∗ semVal ((c : Thread nD τ), SemLoc.dma (wS (rix (sno t h)))) 0 ∗ filled m c t h
          ∗ (wM.view.loc (c : Thread nD τ) ↦[Finset.univ]{wq (rix (sno t h))} wc m c) -∗ Wp c (k ⟨⟩) Q)
        -∗ Wp c ((waitW c t h).bind k) Q) := by
  unfold waitW turn
  rw [lift_bind, dif_pos t.isLt]
  unfold flying
  iintro ⟨#Hlev, ⟨%W, HO⟩, HF, Hr⟩ Hk
  iapply (Transfers.wp_waitLocalO EC Variants.none (c : Thread nD τ) none (dstw := ringM (rix (sno t h))) () rfl (O := owedSends c r) (W := W)) $$ [HF HO]
  · isplitl [HF]; · iexact HF
    isplitl [HO]; · iexact HO
    iapply (mayWait_local c _ (ring_lv c _) r); iexact Hlev
  iintro ⟨⟨Hf, Hs⟩, Hv, HO⟩
  iapply Hk
  isplitl [HO]; · iexists _; iexact HO
  isplitl [Hv]; · iexact Hv
  isplitl [Hf]; · iexact Hf
  iapply (pointsTo_split_subset (Finset.subset_univ (wsrcM c t h).view.set)).2
  isplitl [Hs]; · iexact Hs
  iexact Hr

/-- The slot a half step frees is the one the next block but two takes. -/
theorem wp_startNext {α : Type} {Q : α → sProp 𝕄} {k : PUnit → P F α} (c : Dev nD) (t : Fin 8) (h : Bool) :
    idle m c (rix (sno t h)) ⊢ iprop((turn m c (t.val + 1 + h.toNat) (!h) -∗ Wp c (k ⟨⟩) Q) -∗ Wp c ((startNext c t h).bind k) Q) := by
  have key : ∀ (u : ℕ) (h' : Bool), rix (2 * u + h'.toNat) = rix (sno t h) →
      idle m c (rix (sno t h)) ⊢ iprop((turn m c u h' -∗ Wp c (k ⟨⟩) Q) -∗ Wp c ((if hu : u < 8 then startW c ⟨u, hu⟩ h' else pure ⟨⟩ : P F PUnit).bind k) Q) := by
    intro u h' e
    unfold turn
    split
    · rw [← e]; exact wp_start m c ⟨u, _⟩ h'
    · rw [ret_bind, e]
      iintro H Hk
      iapply Hk; iexact H
  cases h
  · exact key _ true (Fin.ext (by show (2 * (t.val + 1) + 1) % 3 = (2 * t.val + 0) % 3; omega))
  · exact key _ false (Fin.ext (by show (2 * (t.val + 2) + 0) % 3 = (2 * t.val + 1) % 3; omega))

end Cert.Proof
-- ==== Proof.Group.lean ====
/-
# The groups

What the result holds after each half step, and the group: both halves of the columns, then the next send.
-/
module

public import proofs.«01_k».proof.Proof.Local
public import Idealize.ShloMosaic.Lib.Pipeline.Value

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The values -/

/-- The product of a row block with a block of `w`. -/
def prod (x : FVec F S512x512 .f32) (w : FVec F S512x4096 .f32) : FVec F S512x4096 .f32 :=
  matmul dot_S512x512_S512x4096_S512x4096_1_0_0_1_n_n none x w (constant S512x4096 .f32 0x00000000#32)

/-- Group `t`'s new value of a half of the result, from its old one. -/
def stepV (t : Fin 8) (x : FVec F S512x512 .f32) (w o : FVec F S512x4096 .f32) : FVec F S512x4096 .f32 :=
  if t.val = 0 then prod x w
  else if t.val = 7 then maximumf (addf o (prod x w)) (broadcast S512x4096 (Scalar.ofBits .f32 0x00000000#32))
  else addf o (prod x w)

theorem stepVal_eq (t : Fin 8) (x : FVec F S512x512 .f32) (w : Vec F S1x512x4096 .f32) (o : Vec F S512x4096 .f32) :
    stepVal t x w o = stepV t x (shapeCast S512x4096 w shapeCasts_S1x512x4096_S512x4096) o := by
  unfold stepVal stepV prod
  have e : shapeCast S512x4096 o shapeCasts_S512x4096_S512x4096 = o := shapeCast_self o _
  split
  · rfl
  split
  · unfold k0_pay28; rw [e]
  · unfold k0_pay7; rw [e]

/-- The operand of group `t`: the device's own row block, then the blocks received, in the order of the sends. -/
def operand (c : Dev nD) (t : Fin 8) : FVec F S512x512 .f32 :=
  Fin.cases (motive := fun _ => FVec F S512x512 .f32) (k0_pay2 ((xM.access (ownR c)).read (Elt F) (xstg m ρ c)))
    (fun k => extf .f32 (incoming m ρ c k) bitsLt_bf16_f32) t

/-- Half `h` of the result after `n` groups. -/
def acc (c : Dev nD) (h : Bool) : ℕ → FVec F S512x4096 .f32
  | 0 => constant S512x4096 .f32 0x00000000#32
  | n + 1 => if hn : n < 8 then stepV ⟨n, hn⟩ (operand m ρ c ⟨n, hn⟩) (wblk m c ⟨n, hn⟩ h) (acc c h n) else acc c h n

theorem acc_succ (c : Dev nD) (h : Bool) (t : Fin 8) (o : FVec F S512x4096 .f32) (ho : 0 < t.val → o = acc m ρ c h t.val) :
    stepV t (operand m ρ c t) (wblk m c t h) o = acc m ρ c h (t.val + 1) := by
  conv_rhs => unfold acc
  rw [dif_pos t.isLt]
  unfold stepV
  by_cases h0 : t.val = 0
  · rw [if_pos h0, if_pos h0]
  · rw [ho (Nat.pos_of_ne_zero h0)]

/-! ## The result -/

/-- The result, each half as it stands after its number of groups. -/
def outSt (c : Dev nD) (n : Bool → ℕ) : sProp 𝕄 :=
  iprop(∃ f, ⌜∀ h, 0 < n h → (oM.access (halfR h)).read (Elt F) f = acc m ρ c h (n h)⌝ ∗ (oM.view.loc (c : Thread nD τ) ↦[Finset.univ]{fullShare} f))

theorem half_disjoint (h h' : Bool) (hne : h ≠ h') : Disjoint (oM.access (halfR h)).set (oM.access (halfR h')).set := by
  refine View.disjoint_slice_of_sep _ _ _ 1 rfl rfl ?_
  revert hne; revert h h'; decide

/-- Storing one half leaves the other. -/
theorem out_store (c : Dev nD) (n : Bool → ℕ) (h : Bool) (f : Buf (Elt F) (oM.view.loc (c : Thread nD τ))) (v : FVec F S512x4096 .f32)
    (hf : ∀ h, 0 < n h → (oM.access (halfR h)).read (Elt F) f = acc m ρ c h (n h)) (k : ℕ) (hv : v = acc m ρ c h k) :
    ∀ h', 0 < Function.update n h k h' →
      (oM.access (halfR h')).read (Elt F) ((oM.access (halfR h)).write (Elt F) f v Finset.univ) = acc m ρ c h' (Function.update n h k h') := by
  intro h' h0
  by_cases e : h' = h
  · subst e
    rw [Function.update_self, ← hv]
    exact View.read_write_univ _ _
  · rw [Function.update_of_ne e] at h0 ⊢
    rw [← hf h' h0]
    exact View.read_slice_write_slice_of_disjoint _ _ _ _ _ (half_disjoint h' h e)

/-! ## The half step -/

theorem ring_read (j : Fin 3) (f : (ringM j).view.ty.Contents (Elt F)) :
    shapeCast S512x4096 ((bM.access (ringR j)).read (Elt F) f) shapeCasts_S1x512x4096_S512x4096 = (ringM j).view.read (Elt F) f := rfl

theorem wp_half {α : Type} {Q : α → sProp 𝕄} {k : PUnit → P F α} (c : Dev nD) (t : Fin 8) (h : Bool) (n : Bool → ℕ) (hn : n h = t.val) (r : ℕ) :
    iprop(levAts L lv ∗ (∃ W, owes (c : Thread nD τ) (owedSends c r) W) ∗ turn m c t.val h ∗ outSt m ρ c n)
      ⊢ iprop(((∃ W, owes (c : Thread nD τ) (owedSends c r) W) ∗ turn m c (t.val + 1 + h.toNat) (!h)
          ∗ outSt m ρ c (Function.update n h (t.val + 1)) -∗ Wp c (k ⟨⟩) Q)
        -∗ Wp c ((half c t h (operand m ρ c t)).bind k) Q) := by
  unfold half
  simp only [bind_bind]
  iintro ⟨#Hlev, HO, HT, Hout⟩ Hk
  iapply (wp_waitW m c t h r) $$ [HO HT]
  · isplitr; · iexact Hlev
    isplitl [HO]; · iexact HO
    iexact HT
  iintro ⟨HO, Hv, Hf, Hw⟩
  unfold filled outSt ringPts loadRing loadOut storeOut
  icases Hf with ⟨%f, %hf, Hf⟩
  icases Hout with ⟨%g, %hg, Hout⟩
  simp only [lift_bind]
  iapply (wp_load_rect Variants.none (c : Thread nD τ) none Set.univ (m := bM) (r := ringR (rix (sno t h))) (S := (ringM (rix (sno t h))).view.set)
    (View.set_reshape (bM.access (ringR (rix (sno t h)))) squeezes_S1x512x4096_S512x4096.numel_eq).symm.subset) $$ Hf
  iintro Hf
  iapply (wp_load_rect Variants.none (c : Thread nD τ) none Set.univ (m := oM) (r := halfR h) (Finset.subset_univ _)) $$ Hout
  iintro Hout
  have hstep : stepVal t (operand m ρ c t) ((bM.access (ringR (rix (sno t h)))).read (Elt F) f) ((oM.access (halfR h)).read (Elt F) g)
      = acc m ρ c h (t.val + 1) := by
    rw [stepVal_eq, ring_read, hf]
    exact acc_succ m ρ c h t _ fun h0 => by rw [hg h (by rw [hn]; exact h0), hn]
  have fin : iprop((∃ W, owes (c : Thread nD τ) (owedSends c r) W) ∗ semVal ((c : Thread nD τ), SemLoc.dma (wS (rix (sno t h)))) 0
      ∗ ((ringM (rix (sno t h))).view.loc (c : Thread nD τ) ↦[(ringM (rix (sno t h))).view.set]{fullShare} f)
      ∗ (wM.view.loc (c : Thread nD τ) ↦[Finset.univ]{wq (rix (sno t h))} wc m c)
      ∗ (oM.view.loc (c : Thread nD τ) ↦[Finset.univ]{fullShare} g))
      ⊢ iprop(((∃ W, owes (c : Thread nD τ) (owedSends c r) W) ∗ turn m c (t.val + 1 + h.toNat) (!h)
          ∗ outSt m ρ c (Function.update n h (t.val + 1)) -∗ Wp c (k ⟨⟩) Q)
        -∗ Wp c (.op (.store oM (halfR h) (stepVal t (operand m ρ c t) ((bM.access (ringR (rix (sno t h)))).read (Elt F) f) ((oM.access (halfR h)).read (Elt F) g))
          Finset.univ (View.stores_vmem_bits_univ h_S512x4096 rfl) (.inl rfl)) fun _ => (startNext c t h).bind k) Q) := by
    iintro ⟨HO, Hv, Hf, Hw, Hout⟩ Hk
    iapply (wp_store Variants.none (c : Thread nD τ) none Set.univ (m := oM) (r := halfR h) (Finset.subset_univ _)) $$ Hout
    iintro Hout
    iapply (wp_startNext m c t h) $$ [Hv Hf Hw]
    · unfold idle ringPts
      isplitl [Hv]; · iexact Hv
      isplitl [Hf]; · iexists _; iexact Hf
      iexact Hw
    iintro HT
    iapply Hk
    isplitl [HO]; · iexact HO
    isplitl [HT]; · iexact HT
    unfold outSt
    iexists _
    isplitr
    · ipureintro; exact out_store m ρ c n h g _ hg (t.val + 1) hstep
    iexact Hout
  split
  · rw [ret_bind]
    iapply fin $$ [HO Hv Hf Hw Hout]
    · isplitl [HO]; · iexact HO
      isplitl [Hv]; · iexact Hv
      isplitl [Hf]; · iexact Hf
      isplitl [Hw]; · iexact Hw
      iexact Hout
    iexact Hk
  · rw [lift_bind]
    iapply (wp_load_rect Variants.none (c : Thread nD τ) none Set.univ (m := oM) (r := halfR h) (Finset.subset_univ _)) $$ Hout
    iintro Hout
    iapply fin $$ [HO Hv Hf Hw Hout]
    · isplitl [HO]; · iexact HO
      isplitl [Hv]; · iexact Hv
      isplitl [Hf]; · iexact Hf
      isplitl [Hw]; · iexact Hw
      iexact Hout
    iexact Hk

end Cert.Proof
-- ==== Proof.Body.lean ====
/-
# The body, run

The exchange, the groups and the closing waits put together: what a device holds when its body starts, and what it
holds when the body ends.
-/
module

public import proofs.«01_k».proof.Proof.Group
public import Idealize.ShloMosaic.Lib.Ring.FamCut

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × KC → ℕ) (c : Dev nD)

/-! ## Families over the seven peers, and running through them -/

/-- The members from `n` on. -/
def since (n : ℕ) (Φ : Fin 7 → sProp 𝕄) : sProp 𝕄 := bigSep (Finset.univ.filter fun k : Fin 7 => n ≤ k.val) Φ
/-- The members before `n`. -/
def before (n : ℕ) (Φ : Fin 7 → sProp 𝕄) : sProp 𝕄 := bigSep (Finset.univ.filter fun k : Fin 7 => k.val < n) Φ

omit [FloatOps F] in
theorem since_zero (Φ : Fin 7 → sProp 𝕄) : since 0 Φ = bigSep Finset.univ Φ := by
  unfold since; congr 1
omit [FloatOps F] in
theorem since_all (Φ : Fin 7 → sProp 𝕄) : since 7 Φ = iprop(emp) := by
  unfold since; rw [show (Finset.univ.filter fun k : Fin 7 => 7 ≤ k.val) = ∅ by decide, bigSep_empty]; rfl
omit [FloatOps F] in
theorem before_zero (Φ : Fin 7 → sProp 𝕄) : before 0 Φ = iprop(emp) := by
  unfold before; rw [show (Finset.univ.filter fun k : Fin 7 => k.val < 0) = ∅ by decide, bigSep_empty]; rfl
omit [FloatOps F] in
theorem before_all (Φ : Fin 7 → sProp 𝕄) : before 7 Φ = bigSep Finset.univ Φ := by
  unfold before; congr 1
omit [FloatOps F] in
theorem since_step (k : Fin 7) (Φ : Fin 7 → sProp 𝕄) : since k.val Φ = iprop(Φ k ∗ since (k.val + 1) Φ) := by
  unfold since
  rw [show (Finset.univ.filter fun j : Fin 7 => k.val ≤ j.val) = insert k (Finset.univ.filter fun j : Fin 7 => k.val + 1 ≤ j.val) by revert k; decide,
    bigSep_insert (by simp)]
  rfl
omit [FloatOps F] in
theorem before_step (k : Fin 7) (Φ : Fin 7 → sProp 𝕄) : before (k.val + 1) Φ = iprop(Φ k ∗ before k.val Φ) := by
  unfold before
  rw [show (Finset.univ.filter fun j : Fin 7 => j.val < k.val + 1) = insert k (Finset.univ.filter fun j : Fin 7 => j.val < k.val) by revert k; decide,
    bigSep_insert (by simp)]
  rfl

/-- Running a program at consecutive members keeps what each run steps from its number to the next. -/
theorem wp_each {α : Type} {Q : α → sProp 𝕄} (p : Fin 7 → P F PUnit) (J : ℕ → sProp 𝕄)
    (hstep : ∀ (i : Fin 7) (k : PUnit → P F α), J i.val ⊢ iprop((J (i.val + 1) -∗ Wp c (k ⟨⟩) Q) -∗ Wp c ((p i).bind k) Q))
    (k : PUnit → P F α) : ∀ (l : List (Fin 7)) (n : ℕ), l.map Fin.val = List.range' n l.length →
      J n ⊢ iprop((J (n + l.length) -∗ Wp c (k ⟨⟩) Q) -∗ Wp c ((each l p).bind k) Q)
  | [], n, _ => by
    iintro H Hk
    iapply Hk; iexact H
  | i :: l, n, hl => by
    have hl' : i.val = n ∧ l.map Fin.val = List.range' (n + 1) l.length := by
      rw [List.map_cons, List.length_cons, List.range'_succ] at hl
      exact ⟨List.head_eq_of_cons_eq hl, List.tail_eq_of_cons_eq hl⟩
    obtain ⟨hi, hl'⟩ := hl'
    subst hi
    have ih := wp_each p J hstep k l (i.val + 1) hl'
    show J i.val ⊢ iprop((J (i.val + (l.length + 1)) -∗ Wp c (k ⟨⟩) Q) -∗ Wp c (((p i).bind fun _ => each l p).bind k) Q)
    rw [bind_bind, show i.val + (l.length + 1) = i.val + 1 + l.length by omega]
    iintro H Hk
    iapply (hstep i) $$ H
    iintro H
    iapply ih $$ H
    iexact Hk

/-! ## The remote steps, counted -/

theorem upName_eq (k : Fin 7) : upName c k = up c k := by
  match k with
  | 0 => exact Fin.ext (k0_dev1_eq c) | 1 => exact Fin.ext (k0_dev2_eq c) | 2 => exact Fin.ext (k0_dev3_eq c) | 3 => exact Fin.ext (k0_dev4_eq c)
  | 4 => exact Fin.ext (k0_dev5_eq c) | 5 => exact Fin.ext (k0_dev6_eq c) | 6 => exact Fin.ext (k0_dev7_eq c)
theorem dnName_eq (k : Fin 7) : dnName c k = dn c k := by
  match k with
  | 0 => exact Fin.ext (k0_dev8_eq c) | 1 => exact Fin.ext (k0_dev9_eq c) | 2 => exact Fin.ext (k0_dev10_eq c) | 3 => exact Fin.ext (k0_dev11_eq c)
  | 4 => exact Fin.ext (k0_dev12_eq c) | 5 => exact Fin.ext (k0_dev13_eq c) | 6 => exact Fin.ext (k0_dev14_eq c)

theorem owedAll_step (k : Fin 7) : owedAll c (7 - k.val) = owedAll c (7 - (k.val + 1)) + tallyAt (barCell (up c k)) () 1 := by
  have h : 7 - k.val = (7 - (k.val + 1)) + 1 := by omega
  rw [h]; show owedAll c _ + tallyAt (barCell (up c ⟨6 - (7 - (k.val + 1)), _⟩)) () 1 = _
  rw [show (⟨6 - (7 - (k.val + 1)), by omega⟩ : Fin 7) = k from Fin.ext (by show 6 - (7 - (k.val + 1)) = k.val; omega)]
theorem owedSends_step (k : Fin 7) : owedSends c (7 - k.val) = owedSends c (7 - (k.val + 1)) + tallyAt (recvCell (dn c k) k) () N := by
  have h : 7 - k.val = (7 - (k.val + 1)) + 1 := by omega
  rw [h]; show owedSends c _ + tallyAt (recvCell (dn c ⟨6 - (7 - (k.val + 1)), _⟩) ⟨6 - (7 - (k.val + 1)), _⟩) () N = _
  rw [show (⟨6 - (7 - (k.val + 1)), by omega⟩ : Fin 7) = k from Fin.ext (by show 6 - (7 - (k.val + 1)) = k.val; omega)]

/-- What a device signals peer `k` with. -/
def sigKit (k : Fin 7) : sProp 𝕄 := iprop(dutyTok ER (barCell (up c k)) 0 k ∗ ∃ f, slotPts (F := F) c k.succ f)
/-- What a device sends to peer `k` with. -/
def sendKit (k : Fin 7) : sProp 𝕄 :=
  iprop(srcPts m ρ c k ∗ barPay c k ∗ dutyTok ER (sendCell c k) 0 0 ∗ dutyTok ER (recvCell (dn c k) k) 0 0)
/-- What it holds of a send until it waits for it. -/
def sent (k : Fin 7) : sProp 𝕄 := cred (tallyAt (sendCell c k) () N)
/-- What a device waits for send `k` with, on the receiver's side, and what it holds afterwards. -/
def recvKit (k : Fin 7) : sProp 𝕄 := iprop(atPos ER (recvCell c k) 0 ∅ 0 ∗ cred (tallyAt (recvCell c k) () N))
def recvDone (k : Fin 7) : sProp 𝕄 := iprop(semVal (recvCell c k) 0 ∗ ∃ f, slotPts (F := F) c k.succ f)
/-- What a device waits for send `k` with, on the sender's side, and what it holds afterwards. -/
def sendWait (k : Fin 7) : sProp 𝕄 := iprop(sent (F := F) c k ∗ atPos ER (sendCell c k) 0 ∅ 0)
def sendDone (k : Fin 7) : sProp 𝕄 := iprop(semVal (sendCell c k) 0 ∗ srcPts m ρ c k)

/-- After `n` signals. -/
def sigSt (W : Waits sig Unit) (n : ℕ) : sProp 𝕄 :=
  iprop(records m ρ K ∗ owes (c : Thread nD τ) (owedAll c (7 - n)) W ∗ since n (sigKit c))
/-- After `n` sends. -/
def sendSt (n : ℕ) : sProp 𝕄 :=
  iprop((∃ W, owes (c : Thread nD τ) (owedSends c (7 - n)) W) ∗ since n (sendKit m ρ c) ∗ before n (sent c))

theorem op_bind {α β : Type} (e : TpuEff nD τ sig (Elt F) Λ₀ .tc PUnit) (k : PUnit → P F α) (k' : α → P F β) :
    (Prog.op e k : P F α).bind k' = .op e fun a => (k a).bind k' := rfl

theorem wp_signalP {α : Type} {Q : α → sProp 𝕄} (W : Waits sig Unit) (i : Fin 7) (k : PUnit → P F α) :
    sigSt m ρ K c W i.val ⊢ iprop((sigSt m ρ K c W (i.val + 1) -∗ Wp c (k ⟨⟩) Q) -∗ Wp c ((signalP c i).bind k) Q) := by
  unfold sigSt signalP semSignalWord
  rw [op_bind, owedAll_step, since_step]
  unfold sigKit
  iintro ⟨#HR, HO, ⟨Ht, Hs⟩, Hrest⟩ Hk
  iapply (wp_signal_peer m ρ K c W i _ (upName_eq c i) _ rfl (owedAll c (7 - (i.val + 1)))) $$ [HO Ht Hs]
  · isplitr; · iexact HR
    isplitl [HO]; · iexact HO
    isplitl [Ht] <;> iassumption
  iintro HO
  iapply Hk
  isplitr; · iexact HR
  isplitl [HO] <;> iassumption

theorem wp_sendP {α : Type} {Q : α → sProp 𝕄} (i : Fin 7) (k : PUnit → P F α) :
    iprop(records m ρ K ∗ sendSt m ρ c i.val) ⊢ iprop((sendSt m ρ c (i.val + 1) -∗ Wp c (k ⟨⟩) Q) -∗ Wp c ((sendP c i).bind k) Q) := by
  unfold sendSt sendP
  rw [lift_bind, owedSends_step, since_step, before_step]
  unfold sendKit
  iintro ⟨#HR, ⟨%W, HO⟩, ⟨⟨Hs, Hb, Ht1, Ht2⟩, Hrest⟩, Hsent⟩ Hk
  iapply (wp_send_peer m ρ K c W i _ (dnName_eq c i) (owedSends c (7 - (i.val + 1)))) $$ [HO Hs Hb Ht1 Ht2]
  · isplitr; · iexact HR
    isplitl [HO]; · iexact HO
    isplitl [Hs]; · iexact Hs
    isplitl [Hb]; · iexact Hb
    isplitl [Ht1] <;> iassumption
  iintro ⟨Hc, HO⟩
  iapply Hk
  isplitl [HO]; · iexists _; iexact HO
  isplitl [Hrest]; · iexact Hrest
  isplitl [Hc]; · unfold sent; iexact Hc
  iexact Hsent

theorem slot_read (k : Fin 7) (f : (slotM k.succ).view.ty.Contents (Elt F)) :
    shapeCast S512x512 ((rM.access (slotR k.succ)).read (Elt F) f) shapeCasts_S1x512x512_S512x512 = (slotM k.succ).view.read (Elt F) f := rfl

theorem wp_received {α : Type} {Q : α → sProp 𝕄} (i : Fin 7) (r : ℕ) (hr : i.val + r < 7) (k : FVec F S512x512 .f32 → P F α) :
    iprop(records m ρ K ∗ levAts L lv ∗ (∃ W, owes (c : Thread nD τ) (owedSends c r) W) ∗ since i.val (recvKit c) ∗ before i.val (recvDone c))
      ⊢ iprop(((∃ W, owes (c : Thread nD τ) (owedSends c r) W) ∗ since (i.val + 1) (recvKit c) ∗ before (i.val + 1) (recvDone c)
          -∗ Wp c (k (operand m ρ c i.succ)) Q) -∗ Wp c ((received i).bind k) Q) := by
  unfold received waitRecvP loadSlot
  simp only [bind_bind, lift_bind, ret_bind]
  rw [since_step, before_step]
  unfold recvKit
  iintro ⟨#HR, #Hlev, ⟨%W, HO⟩, ⟨⟨Hat, Hc⟩, Hrest⟩, Hdone⟩ Hk
  iapply (wp_wait_recv m ρ K c W i r hr (dst := slotM i.succ) rfl) $$ [HO Hat Hc]
  · isplitr; · iexact HR
    isplitr; · iexact Hlev
    isplitl [Hc]; · iexact Hc
    isplitl [HO] <;> iassumption
  unfold recvPay slotPts
  iintro ⟨HO, Hv, ⟨%f, %hf, Hf⟩⟩
  iapply (wp_load_rect Variants.none (c : Thread nD τ) none Set.univ (m := rM) (r := slotR i.succ) (S := (slotM i.succ).view.set)
    (View.set_reshape (rM.access (slotR i.succ)) squeezes_S1x512x512_S512x512.numel_eq).symm.subset) $$ Hf
  iintro Hf
  have e : (k0_pay5 ((rM.access (slotR i.succ)).read (Elt F) f) : FVec F S512x512 .f32) = operand m ρ c i.succ := by
    unfold k0_pay5
    rw [slot_read, hf]; rfl
  beta_reduce
  rw [ret_bind, e]
  iapply Hk
  isplitl [HO]; · iexists _; iexact HO
  isplitl [Hrest]; · iexact Hrest
  isplitr [Hdone]
  · unfold recvDone slotPts
    isplitl [Hv]; · iexact Hv
    iexists _; iexact Hf
  iexact Hdone

theorem wp_waitSendP {α : Type} {Q : α → sProp 𝕄} (i : Fin 7) (k : PUnit → P F α) :
    iprop(records m ρ K ∗ (∃ W, owes (c : Thread nD τ) 0 W) ∗ since i.val (sendWait c) ∗ before i.val (sendDone m ρ c))
      ⊢ iprop((records m ρ K ∗ (∃ W, owes (c : Thread nD τ) 0 W) ∗ since (i.val + 1) (sendWait c) ∗ before (i.val + 1) (sendDone m ρ c)
          -∗ Wp c (k ⟨⟩) Q) -∗ Wp c ((waitSendP c i).bind k) Q) := by
  unfold waitSendP
  rw [lift_bind, since_step, before_step]
  unfold sendWait sent
  iintro ⟨#HR, HO, ⟨⟨Hc, Hat⟩, Hrest⟩, Hdone⟩ Hk
  iapply (wp_wait_send m ρ K c i (dst := srcM c i) rfl) $$ [HO Hat Hc]
  · isplitr; · iexact HR
    isplitl [Hc]; · iexact Hc
    isplitl [HO] <;> iassumption
  iintro ⟨HO, Hv, Hs⟩
  iapply Hk
  isplitr; · iexact HR
  isplitl [HO]; · iexact HO
  isplitl [Hrest]; · iexact Hrest
  isplitr [Hdone]
  · unfold sendDone
    isplitl [Hv] <;> iassumption
  iexact Hdone

/-! ## The group -/

/-- How many sends are out when group `t` starts. -/
abbrev sendsAt (t : ℕ) : ℕ := min 7 (3 + t)

/-- What a device holds between groups. -/
def groupSt (t : ℕ) : sProp 𝕄 :=
  iprop(sendSt m ρ c (sendsAt t) ∗ turn m c t false ∗ turn m c t true ∗ turn m c (t + 1) false ∗ outSt m ρ c fun _ => t)

theorem update_both (t : ℕ) : Function.update (Function.update (fun _ : Bool => t) false (t + 1)) true (t + 1) = fun _ => t + 1 := by
  funext h; cases h <;> rfl

theorem wp_group {α : Type} {Q : α → sProp 𝕄} (t : Fin 8) (k : PUnit → P F α) :
    iprop(records m ρ K ∗ levAts L lv ∗ groupSt m ρ c t.val)
      ⊢ iprop((groupSt m ρ c (t.val + 1) -∗ Wp c (k ⟨⟩) Q) -∗ Wp c ((group c t (operand m ρ c t)).bind k) Q) := by
  unfold group groupSt
  simp only [bind_bind]
  iintro ⟨#HR, #Hlev, Hsend, HT0, HT1, HT2, Hout⟩ Hk
  have halves : iprop(levAts L lv ∗ sendSt m ρ c (sendsAt t.val) ∗ turn m c t.val false ∗ turn m c t.val true ∗ outSt m ρ c fun _ => t.val)
      ⊢ iprop((sendSt m ρ c (sendsAt t.val) ∗ turn m c (t.val + 1) true ∗ turn m c (t.val + 2) false ∗ outSt m ρ c (fun _ => t.val + 1)
          -∗ Wp c ((if h : t.val < 4 then sendP c ⟨t.val + 3, by omega⟩ else pure ⟨⟩ : P F PUnit).bind k) Q)
        -∗ Wp c ((half c t false (operand m ρ c t)).bind fun _ => (half c t true (operand m ρ c t)).bind fun _ =>
            (if h : t.val < 4 then sendP c ⟨t.val + 3, by omega⟩ else pure ⟨⟩ : P F PUnit).bind k) Q) := by
    unfold sendSt
    iintro ⟨#Hlev, ⟨HO, Hs1, Hs2⟩, HT0, HT1, Hout⟩ Hk
    iapply (wp_half m ρ c t false (fun _ => t.val) rfl (7 - sendsAt t.val)) $$ [HO HT0 Hout]
    · isplitr; · iexact Hlev
      isplitl [HO]; · iexact HO
      isplitl [HT0] <;> iassumption
    iintro ⟨HO, HT3, Hout⟩
    iapply (wp_half m ρ c t true (Function.update (fun _ => t.val) false (t.val + 1)) rfl (7 - sendsAt t.val)) $$ [HO HT1 Hout]
    · isplitr; · iexact Hlev
      isplitl [HO]; · iexact HO
      isplitl [HT1] <;> iassumption
    rw [update_both]
    iintro ⟨HO, HT4, Hout⟩
    iapply Hk
    isplitl [HO Hs1 Hs2]
    · isplitl [HO]; · iexact HO
      isplitl [Hs1] <;> iassumption
    isplitl [HT3]; · iexact HT3
    isplitl [HT4]; · iexact HT4
    iexact Hout
  iapply halves $$ [Hsend HT0 HT1 Hout]
  · isplitr; · iexact Hlev
    isplitl [Hsend]; · iexact Hsend
    isplitl [HT0]; · iexact HT0
    isplitl [HT1] <;> iassumption
  iintro ⟨Hsend, HT3, HT4, Hout⟩
  by_cases h4 : t.val < 4
  · rw [dif_pos h4, show sendsAt t.val = (⟨t.val + 3, by omega⟩ : Fin 7).val by show min 7 (3 + t.val) = t.val + 3; omega,
      show sendsAt (t.val + 1) = (⟨t.val + 3, by omega⟩ : Fin 7).val + 1 by show min 7 (3 + (t.val + 1)) = t.val + 3 + 1; omega]
    have hi : t.val + 3 < 7 := by omega
    iapply (wp_sendP m ρ K c ⟨t.val + 3, hi⟩) $$ [Hsend]
    · isplitr; · iexact HR
      iexact Hsend
    iintro Hsend
    iapply Hk
    isplitl [Hsend]; · iexact Hsend
    isplitl [HT2]; · iexact HT2
    isplitl [HT3]; · iexact HT3
    isplitl [HT4]; · iexact HT4
    iexact Hout
  · rw [dif_neg h4, ret_bind, show sendsAt t.val = sendsAt (t.val + 1) by show min 7 (3 + t.val) = min 7 (3 + (t.val + 1)); omega]
    iapply Hk
    isplitl [Hsend]; · iexact Hsend
    isplitl [HT2]; · iexact HT2
    isplitl [HT3]; · iexact HT3
    isplitl [HT4]; · iexact HT4
    iexact Hout

/-- What a device holds after `n` of the seven groups on received operands. -/
def loopSt (n : ℕ) : sProp 𝕄 :=
  iprop(records m ρ K ∗ levAts L lv ∗ groupSt m ρ c (n + 1) ∗ since n (recvKit c) ∗ before n (recvDone c))

theorem wp_recvGroup {α : Type} {Q : α → sProp 𝕄} (i : Fin 7) (k : PUnit → P F α) :
    loopSt m ρ K c i.val ⊢ iprop((loopSt m ρ K c (i.val + 1) -∗ Wp c (k ⟨⟩) Q)
      -∗ Wp c (((received i).bind fun x => group c i.succ x).bind k) Q) := by
  unfold loopSt
  rw [bind_bind]
  iintro ⟨#HR, #Hlev, HG, Hr1, Hr2⟩ Hk
  unfold groupSt sendSt
  icases HG with ⟨⟨HO, Hs1, Hs2⟩, HT⟩
  iapply (wp_received m ρ K c i (7 - sendsAt (i.val + 1)) (by show i.val + (7 - min 7 (3 + (i.val + 1))) < 7; omega)) $$ [HO Hr1 Hr2]
  · isplitr; · iexact HR
    isplitr; · iexact Hlev
    isplitl [HO]; · iexact HO
    isplitl [Hr1] <;> iassumption
  iintro ⟨HO, Hr1, Hr2⟩
  iapply (wp_group m ρ K c i.succ) $$ [HO Hs1 Hs2 HT]
  · isplitr; · iexact HR
    isplitr; · iexact Hlev
    unfold groupSt sendSt
    isplitl [HO Hs1 Hs2]
    · isplitl [HO]; · iexact HO
      isplitl [Hs1]; · iexact Hs1
      iexact Hs2
    iexact HT
  unfold groupSt sendSt
  iintro HG
  iapply Hk
  isplitr; · iexact HR
  isplitr; · iexact Hlev
  isplitl [HG]; · iexact HG
  isplitl [Hr1] <;> iassumption

end Cert.Proof
-- ==== Proof.Sound.lean ====
/-
# What the body takes and what it leaves

The body from its first signal to its last wait: the handshake, the cast block, the groups, the closing waits.
-/
module

public import proofs.«01_k».proof.Proof.Body

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × KC → ℕ) (c : Dev nD)

/-! ## The buffers and their parts -/

/-- The rows that are sent to peer `k`, as elements of the block's buffer. -/
abbrev srcSet (k : Fin 7) : Finset (Idx (sM.view.loc (c : Thread nD τ))) := (srcM c k).view.set
/-- The slot that receives from peer `k`, as elements of the receive buffer. -/
abbrev slotSet (k : Fin 7) : Finset (Idx (rM.view.loc (c : Thread nD τ))) := (slotM k.succ).view.set
/-- Slot `j` of the buffer of `w` blocks, as elements of it. -/
abbrev ringSet (j : Fin 3) : Finset (Idx (bM.view.loc (c : Thread nD τ))) := (ringM j).view.set

theorem srcSet_disjoint (k k' : Fin 7) (h : k ≠ k') : Disjoint (srcSet c k) (srcSet c k') := by
  refine View.disjoint_slice_of_sep _ _ _ 0 rfl rfl ?_
  show k0_off1 c (BitVec.ofNat 32 (1 + k.val)) 0 + 512 ≤ k0_off1 c (BitVec.ofNat 32 (1 + k'.val)) 0
    ∨ k0_off1 c (BitVec.ofNat 32 (1 + k'.val)) 0 + 512 ≤ k0_off1 c (BitVec.ofNat 32 (1 + k.val)) 0
  rw [k0_off1_eq c k, k0_off1_eq c k']
  show 512 * ((c.val + 7 - k.val) % 8) + 512 ≤ 512 * ((c.val + 7 - k'.val) % 8) ∨ 512 * ((c.val + 7 - k'.val) % 8) + 512 ≤ 512 * ((c.val + 7 - k.val) % 8)
  have h1 : k.val ≠ k'.val := fun e => h (Fin.ext e)
  have h2 := k.isLt; have h3 := k'.isLt; have h4 : c.val < 8 := c.isLt
  omega

theorem slotSet_disjoint (k k' : Fin 7) (h : k ≠ k') : Disjoint (slotSet c k) (slotSet c k') := by
  have h1 : k.val ≠ k'.val := fun e => h (Fin.ext e)
  have hd : Disjoint (rM.access (slotR k.succ)).set (rM.access (slotR k'.succ)).set := by
    refine View.disjoint_slice_of_sep _ _ _ 0 rfl rfl ?_
    show k.val + 1 + 1 ≤ k'.val + 1 ∨ k'.val + 1 + 1 ≤ k.val + 1
    omega
  exact Finset.disjoint_of_subset_left (View.set_reshape (rM.access (slotR k.succ)) squeezes_S1x512x512_S512x512.numel_eq).subset
    (Finset.disjoint_of_subset_right (View.set_reshape (rM.access (slotR k'.succ)) squeezes_S1x512x512_S512x512.numel_eq).subset hd)

theorem ringSet_disjoint (k k' : Fin 3) (h : k ≠ k') : Disjoint (ringSet c k) (ringSet c k') := by
  have h1 : k.val ≠ k'.val := fun e => h (Fin.ext e)
  have hd : Disjoint (bM.access (ringR k)).set (bM.access (ringR k')).set := by
    refine View.disjoint_slice_of_sep _ _ _ 0 rfl rfl ?_
    show k.val + 1 ≤ k'.val ∨ k'.val + 1 ≤ k.val
    omega
  exact Finset.disjoint_of_subset_left (View.set_reshape (bM.access (ringR k)) squeezes_S1x512x4096_S512x4096.numel_eq).subset
    (Finset.disjoint_of_subset_right (View.set_reshape (bM.access (ringR k')) squeezes_S1x512x4096_S512x4096.numel_eq).subset hd)

/-- The parts of the three buffers that no copy touches, at any contents. -/
def srcRest : sProp 𝕄 := iprop(∃ f, sM.view.loc (c : Thread nD τ) ↦[Ring.restOf (srcSet c)]{fullShare} f)
def slotRest : sProp 𝕄 := iprop(∃ f, rM.view.loc (c : Thread nD τ) ↦[Ring.restOf (slotSet c)]{fullShare} f)
def ringRest : sProp 𝕄 := iprop(∃ f, bM.view.loc (c : Thread nD τ) ↦[Ring.restOf (ringSet c)]{fullShare} f)

theorem src_split : (sM.view.loc (c : Thread nD τ) ↦{fullShare} xcast m ρ c : sProp 𝕄) ⊢ iprop(bigSep Finset.univ (srcPts m ρ c) ∗ srcRest c) :=
  (Ring.fam_split (srcSet c) (srcSet_disjoint c) (xcast m ρ c)).trans (sep_mono .rfl (Ring.pointsTo_exists _ _))
theorem src_join : iprop(bigSep Finset.univ (srcPts m ρ c) ∗ srcRest c) ⊢ (iprop(∃ f, sM.view.loc (c : Thread nD τ) ↦{fullShare} f) : sProp 𝕄) :=
  (sep_mono (bigSep_mono (s := Finset.univ) fun k _ => Ring.pointsTo_exists (srcSet c k) (xcast m ρ c)) .rfl).trans
    (Ring.fam_join (srcSet c) (srcSet_disjoint c) (xcast m ρ c))
theorem slot_split : (iprop(∃ f, rM.view.loc (c : Thread nD τ) ↦{fullShare} f) : sProp 𝕄)
    ⊢ iprop(bigSep Finset.univ (fun k : Fin 7 => iprop(∃ f, slotPts (F := F) c k.succ f)) ∗ slotRest c) :=
  Ring.fam_split_ex (slotSet c) (slotSet_disjoint c)
theorem slot_join (f₀ : Buf (Elt F) (rM.view.loc (c : Thread nD τ))) :
    iprop(bigSep Finset.univ (fun k : Fin 7 => iprop(∃ f, slotPts (F := F) c k.succ f)) ∗ slotRest c)
      ⊢ (iprop(∃ f, rM.view.loc (c : Thread nD τ) ↦{fullShare} f) : sProp 𝕄) :=
  Ring.fam_join (slotSet c) (slotSet_disjoint c) f₀
theorem ring_split : (iprop(∃ f, bM.view.loc (c : Thread nD τ) ↦{fullShare} f) : sProp 𝕄)
    ⊢ iprop(bigSep Finset.univ (fun j : Fin 3 => iprop(∃ f, ringPts (F := F) c j f)) ∗ ringRest c) :=
  Ring.fam_split_ex (ringSet c) (ringSet_disjoint c)
theorem ring_join (f₀ : Buf (Elt F) (bM.view.loc (c : Thread nD τ))) :
    iprop(bigSep Finset.univ (fun j : Fin 3 => iprop(∃ f, ringPts (F := F) c j f)) ∗ ringRest c)
      ⊢ (iprop(∃ f, bM.view.loc (c : Thread nD τ) ↦{fullShare} f) : sProp 𝕄) :=
  Ring.fam_join (ringSet c) (ringSet_disjoint c) f₀

/-! ## The first part: the handshake and the cast block -/

/-- All peers are signalled and have signalled: the slots that this device sends to are in its hands. -/
theorem wp_handshake {α : Type} {Q : α → sProp 𝕄} {k : PUnit → P F α} (W : Waits sig Unit) :
    iprop(records m ρ K ∗ levAts L lv ∗ owes (c : Thread nD τ) (owedAll c 7) W ∗ bigSep Finset.univ (sigKit c)
        ∗ cred (tallyAt (barCell c) () 7) ∗ atPos ER (barCell c) 0 ∅ 0)
      ⊢ iprop(((∃ W, owes (c : Thread nD τ) (owedSends c 7) W) ∗ atPos ER (barCell c) 1 ∅ 0 ∗ bigSep Finset.univ (barPay c) -∗ Wp c (k ⟨⟩) Q)
        -∗ Wp c ((each [0, 1, 2, 3, 4, 5, 6] (signalP c)).bind fun _ => (semWaitWord barS 7#32 : P F PUnit).bind k) Q) := by
  iintro ⟨#HR, #Hlev, HO, Hs, Hc, Hat⟩ Hk
  have h := wp_each (Q := Q) c (signalP (F := F) c) (sigSt m ρ K c W) (wp_signalP m ρ K c W)
    (fun _ => (semWaitWord barS 7#32 : P F PUnit).bind k) [0, 1, 2, 3, 4, 5, 6] 0 rfl
  iapply h $$ [HO Hs]
  · unfold sigSt
    rw [since_zero]
    isplitr; · iexact HR
    isplitl [HO]; · iexact HO
    iexact Hs
  unfold sigSt
  iintro ⟨-, HO, -⟩
  unfold semWaitWord
  rw [op_bind]
  iapply (wp_wait_peers m ρ K c W _ rfl) $$ [HO Hc Hat]
  · isplitr; · iexact HR
    isplitr; · iexact Hlev
    isplitl [Hc]; · iexact Hc
    isplitl [HO]; · iexact HO
    iexact Hat
  iintro ⟨HO, Hat, Hp⟩
  iapply Hk
  isplitl [HO]; · iexists _; iexact HO
  isplitl [Hat]; · iexact Hat
  iexact Hp

theorem all_off : (![0, 0] : Fin 2 → ℕ) = fun _ => 0 := by decide

/-- The block is read whole, cast and stored whole. -/
theorem wp_cast {α : Type} {Q : α → sProp 𝕄} {k : PUnit → P F α} :
    iprop((xM.view.loc (c : Thread nD τ) ↦[Finset.univ]{fullShare} xstg m ρ c) ∗ ∃ f, sM.view.loc (c : Thread nD τ) ↦[Finset.univ]{fullShare} f)
      ⊢ iprop(((xM.view.loc (c : Thread nD τ) ↦[Finset.univ]{fullShare} xstg m ρ c) ∗ bigSep Finset.univ (srcPts m ρ c) ∗ srcRest c -∗ Wp c (k ⟨⟩) Q)
        -∗ Wp c ((Prog.lift (.load xM allR.toLoadRect (View.loadsAt_vmem h_S4096x512)) : P F _).bind fun (x : Vec F S4096x512 .f32) =>
          (Prog.lift (.load sM allR.toLoadRect (View.loadsAt_vmem h_S4096x512)) : P F _).bind fun (_ : Vec F S4096x512 .bf16) =>
          (Prog.lift (.store sM allR (k0_pay1 x) Finset.univ
            (View.stores_vmem h_S4096x512 ((Memref.isWhole_whole (sig := sig) cc0_scratch0).storeExact_slice rfl _ packedbf16_S4096x512_S4096x512_0_0) (fun _ => rfl)) (.inl rfl)) : P F _).bind k) Q) := by
  simp only [lift_bind]
  iintro ⟨Hx, ⟨%f, Hs⟩⟩ Hk
  iapply (wp_load_rect Variants.none (c : Thread nD τ) none Set.univ (m := xM) (r := allR) (Finset.subset_univ _)) $$ Hx
  iintro Hx
  iapply (wp_load_rect Variants.none (c : Thread nD τ) none Set.univ (m := sM) (r := allR) (Finset.subset_univ _)) $$ Hs
  iintro Hs
  iapply (wp_store Variants.none (c : Thread nD τ) none Set.univ (m := sM) (r := allR) (Finset.subset_univ _)) $$ Hs
  iintro Hs
  have e : (sM.access allR).write (Elt F) f (k0_pay1 ((xM.access allR).read (Elt F) (xstg m ρ c))) Finset.univ = xcast m ρ c := by
    refine (Memref.write_access_unit_zero_univ (Elt F) cc0_scratch0 all_off _ f _).trans ?_
    exact congrArg k0_pay1 (Memref.read_access_unit_zero (Elt F) cc0_stg0_0 all_off _ (xstg m ρ c))
  rw [e]
  ihave Hs := (src_split m ρ c) $$ Hs
  icases Hs with ⟨Hs, Hr⟩
  iapply Hk
  isplitl [Hx]; · iexact Hx
  isplitl [Hs] <;> iassumption

/-! ## The body -/

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The tokens a device pays with towards peer `k`. -/
def payTok (k : Fin 7) : sProp 𝕄 :=
  iprop(dutyTok ER (barCell (up c k)) 0 k ∗ dutyTok ER (sendCell c k) 0 0 ∗ dutyTok ER (recvCell (dn c k) k) 0 0)

/-- What a device waits with, for peer `k`. -/
def waitPos (k : Fin 7) : sProp 𝕄 :=
  iprop(atPos ER (sendCell c k) 0 ∅ 0 ∗ atPos ER (recvCell c k) 0 ∅ 0 ∗ cred (tallyAt (recvCell c k) () N))

/-- What a device has of the protocol before its body. -/
def stake : sProp 𝕄 :=
  iprop(records m ρ K ∗ (atPos ER (barCell c) 0 ∅ 0 ∗ cred (tallyAt (barCell c) () 7))
    ∗ bigSep Finset.univ (payTok (F := F) c) ∗ bigSep Finset.univ (waitPos (F := F) c))

/-- What it has of its own buffers, before and after: the two halves of the exchange, the receive buffer, and the slots of
`w` blocks with their shares of `w`. -/
def buffers : sProp 𝕄 :=
  iprop((∃ f, sM.view.loc (c : Thread nD τ) ↦[Finset.univ]{fullShare} f)
    ∗ bigSep Finset.univ (fun k : Fin 7 => iprop(∃ f, slotPts (F := F) c k.succ f))
    ∗ bigSep Finset.univ (idle m c))

/-- The counters of the exchange, at zero. -/
def settled : sProp 𝕄 :=
  iprop(semVal (barCell c) 0 ∗ bigSep Finset.univ (fun k : Fin 7 => iprop(semVal (sendCell c k) 0 ∗ semVal (recvCell c k) 0) : Fin 7 → sProp 𝕄))

/-- The block of the argument, as staged. -/
def xPts : sProp 𝕄 := iprop(xM.view.loc (c : Thread nD τ) ↦[Finset.univ]{fullShare} xstg m ρ c)

theorem turn_flying (t : Fin 8) (h : Bool) : turn m c t.val h = flying m c t h := dif_pos t.isLt
theorem turn_idle (t : ℕ) (ht : ¬ t < 8) (h : Bool) : turn m c t h = idle m c (rix (2 * t + h.toNat)) := dif_neg ht

/-- The groups, from the first three sends to the last product. -/
theorem wp_groups {α : Type} {Q : α → sProp 𝕄} {k : PUnit → P F α} :
    iprop(records m ρ K ∗ levAts L lv ∗ sendSt m ρ c 0 ∗ bigSep Finset.univ (idle m c) ∗ (∃ f, oM.view.loc (c : Thread nD τ) ↦[Finset.univ]{fullShare} f)
        ∗ xPts m ρ c ∗ bigSep Finset.univ (recvKit c))
      ⊢ iprop(((∃ W, owes (c : Thread nD τ) 0 W) ∗ bigSep Finset.univ (sent c) ∗ bigSep Finset.univ (idle m c) ∗ outSt m ρ c (fun _ => 8)
            ∗ xPts m ρ c ∗ bigSep Finset.univ (recvDone c) -∗ Wp c (k ⟨⟩) Q)
        -∗ Wp c ((each [0, 1, 2] (sendP c)).bind fun _ => (startW c 0 false).bind fun _ => (startW c 0 true).bind fun _ => (startW c 1 false).bind fun _ =>
            (Prog.lift (.load xM (ownR c).toLoadRect (View.loadsAt_vmem h_S512x512)) : P F _).bind fun (v : Vec F S512x512 .f32) =>
            (group c 0 (k0_pay2 v)).bind fun _ =>
            (each [0, 1, 2, 3, 4, 5, 6] (fun k : Fin 7 => (received k).bind fun x => group c k.succ x)).bind k) Q) := by
  have hi : bigSep Finset.univ (idle m c) = iprop(idle m c (rix (sno 0 false)) ∗ idle m c (rix (sno 0 true)) ∗ idle m c (rix (sno 1 false))) :=
    bigSep_fin3 (idle m c)
  conv_lhs => rw [hi]
  iintro ⟨#HR, #Hlev, Hsend, Hidle, ⟨%fo, Hout⟩, Hx, Hr⟩ Hk
  have hsends := wp_each (Q := Q) c (sendP (F := F) c) (fun n => iprop(records m ρ K ∗ sendSt m ρ c n))
    (fun i k => by
      iintro ⟨#HR, H⟩ Hk
      iapply (wp_sendP m ρ K c i) $$ [H]
      · isplitr; · iexact HR
        iexact H
      iintro H
      iapply Hk
      isplitr; · iexact HR
      iexact H)
    (fun _ => (startW c 0 false).bind fun _ => (startW c 0 true).bind fun _ => (startW c 1 false).bind fun _ =>
            (Prog.lift (.load xM (ownR c).toLoadRect (View.loadsAt_vmem h_S512x512)) : P F _).bind fun (v : Vec F S512x512 .f32) =>
            (group c 0 (k0_pay2 v)).bind fun _ =>
            (each [0, 1, 2, 3, 4, 5, 6] (fun k : Fin 7 => (received k).bind fun x => group c k.succ x)).bind k) [0, 1, 2] 0 rfl
  iapply hsends $$ [Hsend]
  · isplitr; · iexact HR
    iexact Hsend
  iintro ⟨-, Hsend⟩
  icases Hidle with ⟨H0, H1, H2⟩
  iapply (wp_start m c 0 false) $$ H0
  iintro H0
  iapply (wp_start m c 0 true) $$ H1
  iintro H1
  iapply (wp_start m c 1 false) $$ H2
  iintro H2
  rw [lift_bind]
  unfold xPts
  iapply (wp_load_rect Variants.none (c : Thread nD τ) none Set.univ (m := xM) (r := ownR c) (Finset.subset_univ _)) $$ Hx
  iintro Hx
  have hg := wp_group (Q := Q) m ρ K c 0
    (fun _ => (each [0, 1, 2, 3, 4, 5, 6] (fun k : Fin 7 => (received k).bind fun x => group c k.succ x)).bind k)
  iapply hg $$ [Hsend H0 H1 H2 Hout]
  · isplitr; · iexact HR
    isplitr; · iexact Hlev
    unfold groupSt outSt
    isplitl [Hsend]; · iexact Hsend
    isplitl [H0]; · iapply (Entails.of_eq (turn_flying m c 0 false).symm); iexact H0
    isplitl [H1]; · iapply (Entails.of_eq (turn_flying m c 0 true).symm); iexact H1
    isplitl [H2]; · iapply (Entails.of_eq (turn_flying m c 1 false).symm); iexact H2
    iexists fo
    isplitr; · ipureintro; intro h h0; exact absurd h0 (Nat.lt_irrefl 0)
    iexact Hout
  iintro HG
  have hl := wp_each (Q := Q) c (fun k : Fin 7 => (received (F := F) k).bind fun x => group c k.succ x) (loopSt m ρ K c) (wp_recvGroup m ρ K c)
    k [0, 1, 2, 3, 4, 5, 6] 0 rfl
  iapply hl $$ [HG Hr]
  · unfold loopSt
    rw [since_zero]
    isplitr; · iexact HR
    isplitr; · iexact Hlev
    isplitl [HG]; · iexact HG
    isplitl [Hr]; · iexact Hr
    rw [before_zero]; iempintro
  unfold loopSt groupSt sendSt
  iintro ⟨-, -, ⟨⟨HO, -, Hsent⟩, HT0, HT1, HT2, Hout⟩, -, Hr⟩
  iapply Hk
  isplitl [HO]; · iexact HO
  isplitl [Hsent]; · rw [← before_all]; iexact Hsent
  isplitl [HT0 HT1 HT2]
  · rw [bigSep_fin3]
    isplitl [HT2]; · iapply (Entails.of_eq (turn_idle m c 9 (by decide) false)); iexact HT2
    isplitl [HT0]; · iapply (Entails.of_eq (turn_idle m c 8 (by decide) false)); iexact HT0
    iapply (Entails.of_eq (turn_idle m c 8 (by decide) true)); iexact HT1
  isplitl [Hout]; · iexact Hout
  isplitl [Hx]; · iexact Hx
  rw [← before_all]; iexact Hr

omit [FloatOps F] in
theorem bigSep_sep' {ι : Type} [DecidableEq ι] (s : Finset ι) (Φ Ψ : ι → sProp 𝕄) :
    bigSep s (fun i => iprop(Φ i ∗ Ψ i)) = iprop(bigSep s Φ ∗ bigSep s Ψ) := bigSep_sep s Φ Ψ
theorem bind_pure' (p : P F PUnit) : (p.bind fun x => pure x) = p := Prog.bind_pure p
theorem wp_pure' {Q : PUnit → sProp 𝕄} : Q ⟨⟩ ⊢ Wp c (pure ⟨⟩ : P F PUnit) Q := by
  show Q ⟨⟩ ⊢ wp frame (wpE (defs₀ (F := F)) Variants.none (c : Thread nD τ) none) Set.univ (pure ⟨⟩ : P F PUnit) Q
  rw [wp_pure]
  exact fupd_intro
theorem wp_devId {Q : PUnit → sProp 𝕄} (k : Dev nD → P F PUnit) : Wp c (.op .deviceId k) Q = Wp c (k c) Q :=
  wp_deviceId (defs := defs₀ (F := F)) Variants.none (c : Thread nD τ) none Set.univ

theorem settle : iprop(bigSep Finset.univ (recvDone (F := F) c) ∗ bigSep Finset.univ (sendDone m ρ c))
    ⊢ iprop(bigSep Finset.univ (fun k : Fin 7 => iprop(semVal (sendCell c k) 0 ∗ semVal (recvCell c k) 0) : Fin 7 → sProp 𝕄)
      ∗ bigSep Finset.univ (fun k : Fin 7 => iprop(∃ f, slotPts (F := F) c k.succ f)) ∗ bigSep Finset.univ (srcPts m ρ c)) := by
  unfold recvDone sendDone
  simp only [bigSep_sep']
  iintro ⟨⟨Hrv, Hslots⟩, Hsv, Hsrc⟩
  isplitl [Hrv Hsv]
  · isplitl [Hsv] <;> iassumption
  isplitl [Hslots] <;> iassumption

/-- The body, from what a device starts with to what it ends with. -/
theorem wp_flat (W : Waits sig Unit) :
    iprop(levAts L lv ∗ stake m ρ K c ∗ owes (c : Thread nD τ) (owedAll c 7) W ∗ buffers m c ∗ xPts m ρ c
        ∗ ∃ f, oM.view.loc (c : Thread nD τ) ↦[Finset.univ]{fullShare} f)
      ⊢ Wp c (flat (F := F)) fun _ => iprop((∃ W, owes (c : Thread nD τ) 0 W) ∗ settled c ∗ buffers m c ∗ xPts m ρ c ∗ outSt m ρ c fun _ => 8) := by
  unfold flat stake
  rw [lift_bind, wp_devId]
  unfold flatAt buffers payTok waitPos
  simp only [bigSep_sep']
  iintro ⟨#Hlev, ⟨#HR, ⟨HatB, HcB⟩, ⟨Tb, Ts, Tr⟩, ⟨Ps, Pr, Cr⟩⟩, HO, ⟨Hs, Hslots, Hidle⟩, Hx, Hout⟩
  iapply (wp_handshake m ρ K c W) $$ [HO Tb Hslots HcB HatB]
  · isplitr; · iexact HR
    isplitr; · iexact Hlev
    isplitl [HO]; · iexact HO
    isplitl [Tb Hslots]
    · unfold sigKit
      rw [bigSep_sep']
      isplitl [Tb] <;> iassumption
    isplitl [HcB] <;> iassumption
  iintro ⟨HO, HatB, Hbar⟩
  unfold xPts
  iapply (wp_cast m ρ c) $$ [Hx Hs]
  · isplitl [Hx] <;> iassumption
  iintro ⟨Hx, Hsrc, Hrest⟩
  iapply (wp_groups m ρ K c) $$ [HO Hsrc Hbar Ts Tr Hidle Hout Hx Pr Cr]
  · isplitr; · iexact HR
    isplitr; · iexact Hlev
    isplitl [HO Hsrc Hbar Ts Tr]
    · unfold sendSt sendKit
      rw [since_zero, before_zero]
      simp only [bigSep_sep']
      isplitl [HO]; · iexact HO
      isplitr []
      · isplitl [Hsrc]; · iexact Hsrc
        isplitl [Hbar]; · iexact Hbar
        isplitl [Ts]; · iexact Ts
        iexact Tr
      iempintro
    isplitl [Hidle]; · iexact Hidle
    isplitl [Hout]; · iexact Hout
    isplitl [Hx]; · unfold xPts; iexact Hx
    unfold recvKit
    rw [bigSep_sep']
    isplitl [Pr] <;> iassumption
  iintro ⟨HO, Hsent, Hidle, Hout, Hx, Hrd⟩
  have hw := wp_each (α := PUnit) (Q := fun _ => iprop((∃ W, owes (c : Thread nD τ) 0 W) ∗ settled c ∗ buffers m c ∗ xPts m ρ c ∗ outSt m ρ c fun _ => 8))
    c (waitSendP (F := F) c)
    (fun n => iprop(records m ρ K ∗ (∃ W, owes (c : Thread nD τ) 0 W) ∗ since n (sendWait c) ∗ before n (sendDone m ρ c)))
    (wp_waitSendP m ρ K c) (fun x => pure x) [0, 1, 2, 3, 4, 5, 6] 0 rfl
  rw [bind_pure'] at hw
  iapply hw $$ [HO Hsent Ps]
  · rw [since_zero, before_zero]
    isplitr; · iexact HR
    isplitl [HO]; · iexact HO
    isplitl [Hsent Ps]
    · unfold sendWait
      rw [bigSep_sep']
      isplitl [Hsent] <;> iassumption
    iempintro
  iintro ⟨-, HO, -, Hsd⟩
  imod (Rounds.cell_close ER (rd m ρ) (Set.mem_univ (K (c, none))) (fun h => h) (R := 0 + 1) (duties_later m ρ (barCell c))) $$ [HatB] with HatB
  · isplitr; · iapply (inv_at m ρ K (c, none)); iexact HR
    iexact HatB
  iapply (wp_pure' c)
  ihave H := (settle m ρ c) $$ [Hrd Hsd]
  · isplitl [Hrd]; · iexact Hrd
    rw [← before_all]; iexact Hsd
  icases H with ⟨Hv, Hslots, Hsrc⟩
  unfold settled buffers
  isplitl [HO]; · iexact HO
  isplitl [HatB Hv]
  · isplitl [HatB]; · iexact HatB
    iexact Hv
  isplitl [Hsrc Hrest Hslots Hidle]
  · isplitl [Hsrc Hrest]
    · iapply (src_join m ρ c)
      isplitl [Hsrc] <;> iassumption
    isplitl [Hslots] <;> iassumption
  isplitl [Hx] <;> iassumption

end Cert.Proof
-- ==== Proof.Region.lean ====
/-
# The call's proof data

What a device's result holds after the call, what its core holds before and after its body, and that the body takes
the one to the other.
-/
module

public import proofs.«01_k».proof.Proof.Sound
public import Idealize.ShloMosaic.Lib.ValueIdxCore

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The result -/

/-- Which half of the result's columns a column lies in, and its place there. -/
def colHalf (j : Fin 8192) : Bool := decide (4096 ≤ j.val)
def colIn (j : Fin 8192) : Fin 4096 := ⟨j.val % 4096, Nat.mod_lt _ (by decide)⟩

/-- A device's result: each half as its eight groups leave it. -/
def outAt : (cc0_stg1_0 : Ref sig .tc).ty.Contents (Elt F) := fun i => acc m ρ c (colHalf (i 1)) 8 (ValueIdx.ix2 (i 0) (colIn (i 1)))

theorem half_idx (i : (⟨2, ![512, 8192]⟩ : Shape).Idx) :
    (halfR (colHalf (i 1))).idx (ValueIdx.ix2 (i 0) (colIn (i 1))) = i := by
  funext a
  refine Fin.ext ?_
  match a with
  | ⟨0, _⟩ => show 0 + 1 * (i 0).val = (i 0).val; omega
  | ⟨1, _⟩ =>
    show (if colHalf (i 1) = true then 4096 else 0) + 1 * ((i 1).val % 4096) = (i 1).val
    have h : (i 1).val < 8192 := (i 1).isLt
    unfold colHalf
    by_cases h4 : 4096 ≤ (i 1).val
    · rw [decide_eq_true h4, if_pos rfl]; omega
    · rw [decide_eq_false h4, if_neg (by decide)]; omega

/-- A buffer whose two halves are as the eight groups leave them is the result. -/
theorem outAt_of_halves (f : Buf (Elt F) (oM.view.loc (c : Thread nD τ)))
    (hf : ∀ h, 0 < 8 → (oM.access (halfR h)).read (Elt F) f = acc m ρ c h 8) : f = outAt m ρ c := by
  funext i
  unfold outAt
  rw [← hf _ (by decide)]
  exact (congrArg f (half_idx i)).symm

/-! ## What the core holds -/

/-- The counters of the copies of `w`, at zero. -/
def wsems : sProp 𝕄 := bigSep Finset.univ fun j : Fin 3 => semVal ((c : Thread nD τ), SemLoc.dma (wS j)) 0
/-- `w`, whole. -/
def wPts : sProp 𝕄 := iprop(((c : Thread nD τ).loc main_arg1) ↦{fullShare} m ((c : Thread nD τ).loc main_arg1))
/-- The three scratch buffers, each whole at any contents. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- What the body does not touch of these buffers. -/
def aside : sProp 𝕄 := iprop(slotRest (F := F) c ∗ ringRest (F := F) c ∗ (wM.view.loc (c : Thread nD τ) ↦[Finset.univ]{Transfers.shareDrop fullShare 3} wc m c))

/-- The scratch buffers, `w` and the counters of its copies, cut as the body uses them, -/
theorem buffers_intro : iprop(wsems (F := F) c ∗ wPts m c ∗ scratch (F := F) c) ⊢ iprop(buffers m c ∗ aside m c) := by
  have hr := slot_split (F := F) c
  have hb := ring_split (F := F) c
  have hw : wPts m c ⊢ iprop((wM.view.loc (c : Thread nD τ) ↦[Finset.univ]{Transfers.shareDrop fullShare 3} wc m c)
      ∗ bigSep Finset.univ fun j : Fin 3 => (wM.view.loc (c : Thread nD τ) ↦[Finset.univ]{wq j} wc m c)) :=
    Transfers.pointsTo_toks_split fullShare 3
  unfold wsems scratch buffers aside idle
  rw [bigSep_sep', bigSep_sep']
  iintro ⟨Hv, Hw, Hs, Hr, Hb⟩
  ihave Hr := hr $$ Hr
  ihave Hb := hb $$ Hb
  ihave Hw := hw $$ Hw
  icases Hr with ⟨Hr, Hr'⟩
  icases Hb with ⟨Hb, Hb'⟩
  icases Hw with ⟨Hw', Hw⟩
  isplitl [Hs Hr Hv Hb Hw]
  · isplitl [Hs]; · iexact Hs
    isplitl [Hr]; · iexact Hr
    isplitl [Hv]; · iexact Hv
    isplitl [Hb] <;> iassumption
  isplitl [Hr']; · iexact Hr'
  isplitl [Hb'] <;> iassumption

/-- and put together again. -/
theorem buffers_elim (f1 : Buf (Elt F) (rM.view.loc (c : Thread nD τ))) (f2 : Buf (Elt F) (bM.view.loc (c : Thread nD τ))) :
    iprop(buffers m c ∗ aside m c) ⊢ iprop(wsems (F := F) c ∗ wPts m c ∗ scratch (F := F) c) := by
  have hr := slot_join (F := F) c f1
  have hb := ring_join (F := F) c f2
  have hw : iprop((wM.view.loc (c : Thread nD τ) ↦[Finset.univ]{Transfers.shareDrop fullShare 3} wc m c)
      ∗ bigSep Finset.univ fun j : Fin 3 => (wM.view.loc (c : Thread nD τ) ↦[Finset.univ]{wq j} wc m c)) ⊢ wPts m c :=
    Transfers.pointsTo_toks_join fullShare 3
  unfold wsems scratch buffers aside idle
  rw [bigSep_sep', bigSep_sep']
  iintro ⟨⟨Hs, Hr, Hv, Hb, Hw⟩, Hr', Hb', Hw'⟩
  isplitl [Hv]; · iexact Hv
  isplitl [Hw Hw']
  · iapply hw
    isplitl [Hw'] <;> iassumption
  isplitl [Hs]; · iexact Hs
  isplitl [Hr Hr']
  · iapply hr
    isplitl [Hr] <;> iassumption
  iapply hb
  isplitl [Hb] <;> iassumption

/-- What a core starts with, apart from its scratch buffers. -/
def start : sProp 𝕄 := iprop((∃ K, stake m ρ K c) ∗ levAts L lv ∗ wsems (F := F) c ∗ wPts m c)

/-- Before the body, and after it. -/
def Φ₀ : sProp 𝕄 := iprop(start m ρ c ∗ scratch (F := F) c)
def Φ₁ : sProp 𝕄 := iprop(settled (F := F) c ∗ wsems (F := F) c ∗ wPts m c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => owedAll c 7
    | ⟨_ + 1, _⟩ => 0

theorem fetch_x (t : Fin cfg0.N) : (cfg0.win (0 : Fin 2)).fetch t = true := by rw [fin_N0 t]; rfl

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost : sProp 𝕄 :=
  iprop(Φ₁ m c ∗ (dats m ρ 0 c).owesAt () t0_0.succ ∗ stg c cc0_stg0_0 (xstg m ρ c) ∗ stg c cc0_stg1_0 (outAt m ρ c))

/-- The body takes a core from what it starts with to what it ends with. -/
theorem sound_body :
    bodyPre m ρ c ⊢ Wp c (cc0_body (F := F) xM (Memref.isWhole_whole _) wM (Memref.isWhole_whole _) oM (Memref.isWhole_whole _) sM (Memref.isWhole_whole _)
      rM (Memref.isWhole_whole _) bM (Memref.isWhole_whole _) cc0_scratch3 cc0_scratch4 cc0_scratch5) fun _ => bodyPost m ρ c := by
  rw [body_flat]
  unfold bodyPre Φ₀ start Dat.owesAt Pipeline.owesWithin
  rw [show (dats m ρ 0 c).owed t0_0.castSucc = owedAll c 7 from rfl]
  iintro ⟨⟨⟨⟨%K, HS⟩, #Hlev, Hv, Hw⟩, Hscr⟩, ⟨%W, %hW, HO⟩, ⟨%d0, %g0, %hg0, Hx⟩, ⟨%d1, %g1, %hg1, Hout⟩⟩
  have hx : g0 = xstg m ρ c := by rw [hg0]; unfold Dat.before; rw [if_pos (fetch_x t0_0)]; rfl
  subst hx
  ihave Hb := (buffers_intro m c) $$ [Hv Hw Hscr]
  · isplitl [Hv]; · iexact Hv
    isplitl [Hw] <;> iassumption
  icases Hb with ⟨Hb, Ha⟩
  have hrun := wp_flat m ρ K c W
  iapply (wp_wand_r Idealize.ShloMosaic.frame (wpE (defs₀ (F := F)) Variants.none (c : Thread nD τ) none) Set.univ)
  isplitl [HS HO Hb Hx Hout]
  · iapply hrun
    isplitr; · iexact Hlev
    isplitl [HS]; · iexact HS
    isplitl [HO]; · iexact HO
    isplitl [Hb]; · iexact Hb
    isplitl [Hx]; · unfold xPts; iexact Hx
    iexists g1; iexact Hout
  iintro %_ ⟨⟨%W', HO⟩, Hset, Hb, Hx, Hout⟩
  unfold outSt xPts
  icases Hout with ⟨%f, %hf, Hout⟩
  have e := outAt_of_halves m ρ c f hf
  subst e
  unfold bodyPost Φ₁ Dat.owesAt Pipeline.owesWithin
  rw [show (dats m ρ 0 c).owed t0_0.succ = 0 from rfl]
  isplitl [Hset Hb Ha]
  · isplitl [Hset]; · iexact Hset
    iapply (buffers_elim m c (fun _ => default) (fun _ => default))
    isplitl [Hb] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 8000 in
/-- The same, as the pipeline asks for it. -/
theorem body_obligation (c : Dev nD) : BodyObligation (dats (F := F) m ρ 0 c) (defs₀ (F := F)) Variants.none () Set.univ := fun t => by
  rw [fin_N0 t]
  rw [bigSep_W0, bigSep_W0]
  simp only [owns_whole_eq]
  exact sound_body m ρ c

end Cert.Proof
-- ==== Proof.Launch.lean ====
/-
# The run of the whole mesh

The call's ghost state at launch, dealt to the eight devices, and the run: every device ends with its result written,
its arguments unchanged and every counter at zero.
-/
module

public import proofs.«01_k».proof.Proof.Region
public import Idealize.ShloMosaic.Lib.Pipeline.CollectiveSegs
public import Idealize.ShloMosaic.Lib.Quiescent

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Separating conjunctions over the cells and over the peers -/

/-- Over a device's cells: the barrier's, the seven on the sender's side, the seven on the receiver's. -/
theorem bigSep_kc (Φ : KC → sProp 𝕄) : bigSep Finset.univ Φ
    = iprop(Φ none ∗ (bigSep Finset.univ fun k : Fin 7 => Φ (some (false, k))) ∗ bigSep Finset.univ fun k : Fin 7 => Φ (some (true, k))) := by
  rw [bigSep_univ_equiv (Equiv.optionEquivSumPUnit.{0, 0} (Bool × Fin 7)).symm Φ, bigSep_univ_sum,
    BI.bigSep_univ_of_subsingleton (i := PUnit.unit), bigSep_univ_prod, bigSep_univ_eq_bigSepL [false, true] (by decide) (by decide)]
  exact Entails.antisymm BI.sep_comm BI.sep_comm

/-- Moving along a family of rearrangements of the devices, one for each peer. -/
theorem bigSep_move (e : Fin 7 → Dev nD ≃ Dev nD) (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (e k c) k := by
  rw [bigSep_univ_comm, bigSep_congr (s := Finset.univ) (fun (k : Fin 7) _ => bigSep_univ_equiv (e k) (fun c => Φ c k)), bigSep_univ_comm]

def upE (k : Fin 7) : Dev nD ≃ Dev nD := ⟨fun c => up c k, fun c => dn c k, fun c => dn_up c k, fun c => up_dn c k⟩
def dnE (k : Fin 7) : Dev nD ≃ Dev nD := ⟨fun c => dn c k, fun c => up c k, fun c => up_dn c k, fun c => dn_up c k⟩

/-! ## The ghost state at launch -/

/-- The semaphores of a device's own that the body uses: the copies' on either side, and those of the copies of `w`. -/
def osem : (Bool × Fin 7) ⊕ Fin 3 → SemLoc sig
  | .inl s => csem (some s)
  | .inr j => .dma (wS j)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : KC → SemLoc sig) := by decide
theorem kcell_injective : Function.Injective (kcell : Dev nD × KC → GSem nD τ sig) := by
  rintro ⟨c, k⟩ ⟨c', k'⟩ h
  have h1 : c = c' := congrArg (fun g : GSem nD τ sig => g.1.1) h
  have h2 : k = k' := csem_injective (congrArg Prod.snd h)
  rw [h1, h2]
def meshCells : Finset (GSem nD τ sig) := Finset.univ.map ⟨kcell, kcell_injective⟩

/-- One duty of a device's own cells: a peer's signal, or a copy's end on the sender's or on the receiver's side. -/
abbrev semDuty (x : Fin 3 × Fin 7) : SemLoc sig × Fin 7 := match x with
  | (0, k) => (.reg barS, k)
  | (1, k) => (.dma (sendS k), 0)
  | (2, k) => (.dma (recvS k), 0)
theorem semDuty_injective : Function.Injective semDuty := by decide
abbrev tokOf (cx : Dev nD × (Fin 3 × Fin 7)) : GSem nD τ sig × ℕ × Fin 7 := (((cx.1 : Thread nD τ), (semDuty cx.2).1), 0, (semDuty cx.2).2)
theorem tokOf_injective : Function.Injective tokOf := by
  rintro ⟨c, x⟩ ⟨c', x'⟩ h
  have h1 : c = c' := congrArg (fun g : GSem nD τ sig × ℕ × Fin 7 => g.1.1.1) h
  have h2 : x = x' := semDuty_injective (Prod.ext (congrArg (fun g : GSem nD τ sig × ℕ × Fin 7 => g.1.2) h) (congrArg (fun g : GSem nD τ sig × ℕ × Fin 7 => g.2.2) h))
  rw [h1, h2]
def meshToks : Finset (GSem nD τ sig × ℕ × Fin 7) := Finset.univ.map ⟨tokOf, tokOf_injective⟩

def u₀ : UU :=
  (initOf (Pipeline.cells cfgs cellOf_inj) (Pipeline.launchToks cfgs cellOf_inj), (initOf meshCells meshToks, 1))

/-- The duty tokens of device `c`'s own cells. -/
def toks (c : Dev nD) : sProp 𝕄 :=
  iprop((bigSep Finset.univ fun k : Fin 7 => dutyTok ER (barCell c) 0 k) ∗ (bigSep Finset.univ fun k : Fin 7 => dutyTok ER (sendCell c k) 0 0)
    ∗ bigSep Finset.univ fun k : Fin 7 => dutyTok ER (recvCell c k) 0 0)

/-- What the launch deals device `c`, -/
def G (c : Dev nD) : sProp 𝕄 :=
  iprop((bigSep Finset.univ fun k : KC => roundState ER (rd m ρ) (kcell (c, k)) 0)
    ∗ (bigSep Finset.univ fun k : KC => iprop(atPos ER (kcell (c, k)) 0 ∅ 0 ∗ reached ER (kcell (c, k)) 0)) ∗ toks c)

/-- what stays with it alone, -/
def linear (c : Dev nD) : sProp 𝕄 :=
  iprop((bigSep Finset.univ fun k : KC => atPos ER (kcell (c, k)) 0 ∅ 0) ∗ bigSep Finset.univ (payTok c))

/-- and what it has once the invariants stand. -/
def G' (c : Dev nD) : sProp 𝕄 := iprop((∃ K, records m ρ K ∗ linear c) ∗ wsems c)

theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : KC => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by unfold toks; rw [bigSep_univ_prod, bigSep_fin3]; rfl
  iintro HX
  imod (Rounds.fund ER (rd m ρ) meshCells meshToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem mesh_own : (BI.own ((embR : Emb (UB × Counters) 𝕄) (initOf meshCells meshToks, 1)) : sProp 𝕄)
    ⊢ iprop(BI.own (ER (initOf meshCells meshToks)) ∗ BI.own (((Emb.inr : Emb Counters (UB × Counters)).trans embR) (1 : Counters))) := by
  unfold ER
  exact own_pair_emb (embR : Emb (UB × Counters) 𝕄) _ _

theorem ownSems0_eq (c : Dev nD) : (Pipeline.ownSems0 (Ix := Unit) (Name := ℕ) (U := UU) (Lvl := ℕ) (Val := Elt F) (τ := τ) osem c : sProp 𝕄)
    = iprop((bigSep Finset.univ fun k : Fin 7 => iprop(semVal (sendCell c k) 0 ∗ semVal (recvCell c k) 0)) ∗ wsems c) := by
  unfold Pipeline.ownSems0 wsems
  rw [bigSep_univ_sum, bigSep_univ_prod, bigSep_univ_eq_bigSepL [false, true] (by decide) (by decide), bigSep_sep']; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun k : KC => semVal (kcell (c, k)) 0) ∗ wsems c) : sProp 𝕄) := by
  rw [ownSems0_eq, unscopedSems0_eq, bigSep_kc, bigSep_sep']
  iintro ⟨⟨⟨HS, HV⟩, HW⟩, HB⟩
  isplitl [HB HS HV]
  · isplitl [HB]; · iexact HB
    isplitl [HS] <;> iassumption
  iexact HW

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c ∗ wsems c) := by
  unfold G
  iintro ⟨Hos, Hus, Hst, Hat, Htok⟩
  ihave Hv := (sems0_split (F := F) c) $$ [Hos Hus]
  · isplitl [Hos] <;> iassumption
  icases Hv with ⟨Hv, Hw⟩
  imod (show iprop((bigSep Finset.univ fun k : KC => semVal (kcell (c, k)) 0) ∗ bigSep Finset.univ fun k : KC => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens dealt to those who pay: a barrier's token for peer `k` to the device that signals it, a receive cell's to
    the sender. -/
theorem toks_deal : (bigSep Finset.univ fun c : Dev nD => (toks c : sProp 𝕄)) ⊢ bigSep Finset.univ fun c : Dev nD => bigSep Finset.univ (payTok c) := by
  have e : (fun c : Dev nD => bigSep Finset.univ (payTok (F := F) c))
      = fun c => iprop((bigSep Finset.univ fun k : Fin 7 => dutyTok ER (barCell (up c k)) 0 k) ∗ (bigSep Finset.univ fun k : Fin 7 => dutyTok ER (sendCell c k) 0 0)
        ∗ bigSep Finset.univ fun k : Fin 7 => dutyTok ER (recvCell (dn c k) k) 0 0) := funext fun c => by
    unfold payTok; rw [bigSep_sep', bigSep_sep']
  rw [e]
  unfold toks
  rw [bigSep_sep', bigSep_sep', bigSep_sep', bigSep_sep',
    bigSep_move upE (fun c k => (dutyTok ER (barCell c) 0 k : sProp 𝕄)),
    bigSep_move dnE (fun c k => (dutyTok ER (recvCell c k) 0 0 : sProp 𝕄))]
  exact .rfl

/-- What everybody may use, given to each. -/
theorem bigSep_shared {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c ∗ wsems c) : sProp 𝕄)
      ⊢ bigSep Finset.univ (G' m ρ) := by
  rw [bigSep_sep', bigSep_sep', bigSep_sep', ← bigSep_univ_prod (fun ck : Dev nD × KC => iprop(∃ κ : ℕ, cellInv ER (rd m ρ) κ (kcell ck))),
    bigSep_congr (s := Finset.univ) (fun (c : Dev nD) _ => bigSep_sep' Finset.univ (fun k : KC => (atPos ER (kcell (c, k)) 0 ∅ 0 : sProp 𝕄)) (fun k => reached ER (kcell (c, k)) 0)),
    bigSep_sep', ← bigSep_univ_prod (fun ck : Dev nD × KC => (reached ER (kcell ck) 0 : sProp 𝕄))]
  iintro ⟨HI, ⟨Hat, #HR⟩, Htok, Hw⟩
  ihave HK := (BI.bigSep_exists_pi Finset.univ (fun (ck : Dev nD × KC) (κ : ℕ) => (cellInv ER (rd m ρ) κ (kcell ck) : sProp 𝕄))) $$ HI
  icases HK with ⟨%K, #HI⟩
  ihave Htk := (toks_deal (F := F)) $$ Htok
  have h (c : Dev nD) : iprop(records m ρ K ∗ (linear c ∗ wsems c)) ⊢ G' m ρ c := by
    unfold G'
    iintro ⟨HR, HL, HW⟩
    isplitl [HR HL]
    · iexists K; isplitl [HR] <;> iassumption
    iexact HW
  iapply (bigSep_shared h)
  isplitr
  · unfold records; isplitl; · iexact HI
    iexact HR
  unfold linear
  rw [bigSep_sep', bigSep_sep']
  isplitl [Hat Htk]
  · isplitl [Hat] <;> iassumption
  iexact Hw

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

def owedBy (d : Dev nD) : CellTallies nD τ sig Unit :=
  (∑ k : Fin 7, tallyAt (recvCell (dn d k) k) () N) + ∑ k : Fin 7, tallyAt (barCell (up d k)) () 1

theorem turned {A : Type} [AddCommMonoid A] (a0 a1 a2 a3 a4 a5 a6 b0 b1 b2 b3 b4 b5 b6 : A) :
    0 + a6 + a5 + a4 + a3 + a2 + a1 + a0 + b6 + b5 + b4 + b3 + b2 + b1 + b0
      = a0 + a1 + a2 + a3 + a4 + a5 + a6 + (b0 + b1 + b2 + b3 + b4 + b5 + b6) := by
  rw [zero_add]; ac_rfl

theorem owedAll_eq (d : Dev nD) : owedAll d 7 = owedBy d := by
  unfold owedBy
  rw [Fin.sum_univ_seven, Fin.sum_univ_seven]
  show 0 + tallyAt (recvCell (dn d 6) 6) () N + tallyAt (recvCell (dn d 5) 5) () N + tallyAt (recvCell (dn d 4) 4) () N + tallyAt (recvCell (dn d 3) 3) () N
      + tallyAt (recvCell (dn d 2) 2) () N + tallyAt (recvCell (dn d 1) 1) () N + tallyAt (recvCell (dn d 0) 0) () N
      + tallyAt (barCell (up d 6)) () 1 + tallyAt (barCell (up d 5)) () 1 + tallyAt (barCell (up d 4)) () 1 + tallyAt (barCell (up d 3)) () 1
      + tallyAt (barCell (up d 2)) () 1 + tallyAt (barCell (up d 1)) () 1 + tallyAt (barCell (up d 0)) () 1 = _
  exact turned _ _ _ _ _ _ _ _ _ _ _ _ _ _

theorem cred_ones (g : GSem nD τ sig) : (bigSep Finset.univ fun _ : Fin 7 => (cred (tallyAt g () 1) : sProp 𝕄)) ⊢ cred (tallyAt g () 7) := by
  have h (n : ℕ) : iprop(cred (tallyAt g () 1) ∗ cred (tallyAt g () n)) ⊢ (cred (tallyAt g () (1 + n)) : sProp 𝕄) := by
    rw [← tallyAt_add]; exact (cred_add _ _).2
  rw [bigSep_univ_eq_bigSepL [0, 1, 2, 3, 4, 5, 6] (by decide) (by decide)]
  exact (sep_mono_right ((sep_mono_right ((sep_mono_right ((sep_mono_right ((sep_mono_right (h 1)).trans (h 2))).trans (h 3))).trans (h 4))).trans (h 5))).trans (h 6)

theorem creds (c : Dev nD) :
    (Pipeline.launchCred (fun d => owedAll d 7) c : sProp 𝕄)
      ⊢ iprop(cred (tallyAt (barCell c) () 7) ∗ bigSep Finset.univ fun k : Fin 7 => cred (tallyAt (recvCell c k) () N)) := by
  rw [show (fun d => owedAll d 7) = owedBy from funext owedAll_eq]
  unfold owedBy
  rw [Pipeline.launchCred_add, Pipeline.launchCred_sum, Pipeline.launchCred_sum]
  refine sep_comm.trans (sep_mono ?_ ?_)
  · exact (bigSep_mono fun k _ => Pipeline.launchCred_tallyAt (.reg barS) (up · k) (dn · k) (up_dn · k) (dn_up · k) () 1 c).trans (cred_ones _)
  · exact bigSep_mono fun k _ => Pipeline.launchCred_tallyAt (.dma (recvS k)) (dn · k) (up · k) (dn_up · k) (up_dn · k) () N c

/-! ## The theorem's side conditions -/

theorem stake_intro (c : Dev nD) (K) :
    iprop(records m ρ K ∗ linear c ∗ cred (tallyAt (barCell c) () 7) ∗ bigSep Finset.univ fun k : Fin 7 => cred (tallyAt (recvCell c k) () N)) ⊢ stake m ρ K c := by
  have e : bigSep Finset.univ (waitPos (F := F) c) = iprop((bigSep Finset.univ fun k : Fin 7 => atPos ER (sendCell c k) 0 ∅ 0)
      ∗ (bigSep Finset.univ fun k : Fin 7 => atPos ER (recvCell c k) 0 ∅ 0) ∗ bigSep Finset.univ fun k : Fin 7 => cred (tallyAt (recvCell c k) () N)) := by
    unfold waitPos; rw [bigSep_sep', bigSep_sep']
  unfold linear stake
  rw [bigSep_kc, e]
  iintro ⟨HR, ⟨⟨Hb, Hs, Hr⟩, Hp⟩, Hc, Hcs⟩
  isplitl [HR]; · iexact HR
  isplitl [Hb Hc]
  · isplitl [Hb] <;> iassumption
  isplitl [Hp]; · iexact Hp
  isplitl [Hs]; · iexact Hs
  isplitl [Hr] <;> iassumption

theorem start_intro (c : Dev nD) :
    iprop(Pipeline.unscopedRestP Pipeline.Prefetch.none cfg0.spec c (fun b => m ((c : Thread nD τ).loc b)) ∗ levAts L lv
        ∗ Pipeline.launchCred (fun d => owedAll d 7) c ∗ prngReg c (ρ c) ∗ G' m ρ c)
      ⊢ |={Set.univ}=> iprop(start m ρ c ∗ emp) := by
  rw [Pipeline.unscopedRestP_none, show Pipeline.unscopedRest cfg0.spec c (fun b => m ((c : Thread nD τ).loc b)) = wPts m c from unscopedRest0_eq c _]
  iintro ⟨Hw, Hlev, Hcr, -, HG⟩
  ihave Hc := (creds (F := F) c) $$ Hcr
  icases Hc with ⟨H1, HN⟩
  imodintro
  unfold start G'
  icases HG with ⟨⟨%K, HR, HL⟩, HW⟩
  isplitl
  · isplitl [HR HL H1 HN]
    · iexists K
      iapply (stake_intro m ρ c K)
      isplitl [HR]; · iexact HR
      isplitl [HL]; · iexact HL
      isplitl [H1] <;> iassumption
    isplitl [Hlev]; · iexact Hlev
    isplitl [HW] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((unscopedSems0 c ∗ wPts m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ settled scratch
  iintro ⟨⟨Hb, Hk⟩, Hv, Hw, Hs⟩
  isplitl [Hb Hw]
  · isplitl [Hb] <;> iassumption
  isplitl [Hk Hv]
  · isplitl [Hk] <;> iassumption
  iexact Hs

theorem side_stage : ∀ (w : Fin cfg0.W) (s : Fin (cfg0.win w).nbuf), side ((cfg0.win w).sem s) = none := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by dsimp only [lv]; rw [side_stage w s]) 7
    · exact mayWait_cut c _ _ fun g u h => absurd h (Nat.lt_irrefl 0)

/-! ## The run -/

def finalA (c : Dev nD) (w : Fin cfg0.W) : Buf (Elt F) ((cfg0.win w).arr.view.loc (c : Thread nD τ)) := (dats m ρ 0 c).arrAt w cfg0.N

/-- What holds at the end, of the windows' arrays and of `w`. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem read_end (c : Dev nD) (s' : Phys nD τ sig (Elt F)) :
    iprop((unscopedSems0 c ∗ wPts m c) ∗ emp ∗ SI s')
      ⊢ |={Set.univ}=> (iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') : sProp 𝕄) := by
  unfold wPts
  iintro ⟨⟨Hu, Hw⟩, -, HSI⟩
  imod (Pipeline.unscopedSems0_read (X := unscopedSems0 c) (c := c) fupd_intro s') $$ [Hu HSI] with ⟨%h, HSI⟩
  · isplitl [Hu] <;> iassumption
  icombine HSI Hw gives %h0
  imodintro
  isplitr
  · ipureintro; exact ⟨h, Buf.eq_of_forall_mem_univ h0⟩
  iassumption

set_option maxRecDepth 8000 in
/-- On eight devices, for any float values, from any memory with zero counters: every fair execution terminates, with
    each device's arrays at the computed contents, `w` unchanged and every counter at zero. -/
theorem run_mesh : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owedAll d 7) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (mesh_own (F := F)) $$ HX
      icases HX with ⟨HX, -⟩
      imod (fund_mesh m ρ) $$ HX with HG
      imodintro
      isplitl [HP] <;> iassumption)
    (hglob := glob m ρ)
    (hA := fun _ _ => rfl) (hpf := fun _ k => k.elim0)
    (X := start m ρ) (Y := fun c => iprop(unscopedSems0 c ∗ wPts m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => read_end m c s')
    (hQ := fun _ h hs => ⟨fun c => ⟨(h c).1, (h c).2.2.2⟩, sem_eq_zero hs fun c => (h c).2.2.1⟩)

end Cert.Proof
-- ==== Proof.Values.lean ====
/-
# The values over the reals

What a device's result holds, read over extended reals: each entry is the clamped sum, over the eight groups, of a row
of a block of `x` times a column of a block of `w`. The groups take the eight blocks in turn from the device's own, so
their sum is the whole row times the whole column.
-/
module

public import proofs.«01_k».proof.Proof.Launch
public import proofs.«01_k».proof.Proof.Gen.ReferenceIdeal
public import Idealize.ShloMosaic.Lib.Pipeline.Value
public import Idealize.ShloMosaic.Lib.Layout
public import Idealize.ShloMosaic.Lib.KernelVsHost
public import Idealize.ShloMosaic.Lib.StackMember

@[expose] public section

noncomputable section

namespace Cert.Proof

open Cert.KernelIdeal Cert.KernelIdeal.Gen

open Idealize.ShloMosaic
open Idealize.ShloMosaic.TcCoe
open Idealize.ShloMosaic.Pipeline (Dat Cfg Window cellOf)
open Idealize.ShloMosaic.ValueIdx
open scoped BigOperators

/-! ## The arrays at the end -/

section Arrays
variable {F : FTy → Type} [FloatOps F]
variable (m : (ℓ : Loc nD τ sig) → Buf (Elt F) ℓ) (ρ : Dev nD → PrngReg) (c : Dev nD)

theorem finalA_x : finalA m ρ c (0 : Fin 2) = m ((c : Thread nD τ).loc main_arg0) :=
  (dats (F := F) m ρ 0 c).arrAt_in (0 : Fin 2) rfl _

/-- The one block of each window begins at the origin, so it is the whole array. -/
theorem x_block_off : (fun a => win0_0.index t0_0 a * main_arg0.ty.shape.size a) = fun _ => 0 := funext fun a => by fin_cases a <;> decide
theorem out_block_off : (fun a => win0_1.index t0_0 a * main_v1.ty.shape.size a) = fun _ => 0 := funext fun a => by fin_cases a <;> decide

theorem xstg_eq : xstg m ρ c = m ((c : Thread nD τ).loc main_arg0) :=
  Memref.read_access_unit_zero (Elt F) main_arg0 x_block_off (fun a => by rw [congrFun x_block_off a]; simp) (m ((c : Thread nD τ).loc main_arg0))

theorem out_written (t : Fin cfg0.N) :
    (dats m ρ 0 c).flushed (1 : Fin 2) t = ((cfg0.win 1).blk t).view.read (Elt F) (outAt m ρ c) := by
  rw [fin_N0 t]
  show (cfg0.win 1).cut (grid0.coords t0_0) ((dats m ρ 0 c).after (1 : Fin 2) t0_0) = _
  exact (Memref.read_access_unit_zero (Elt F) main_v1 out_block_off (fun a => by rw [congrFun out_block_off a]; simp) (outAt m ρ c)).symm

theorem out_covered (i : S512x8192.Idx) : i ∈ ((View.whole main_v1).slice (win0_1.rect t0_0)).set := by
  rw [View.set_slice_whole, Rect.mem_set_unit]
  intro a
  have ho : win0_1.index t0_0 a * win0_1.size a = 0 := congrFun out_block_off a
  have hs : win0_1.xsize (grid0.coords t0_0) a = S512x8192.size a := by fin_cases a <;> decide +kernel
  show win0_1.index t0_0 a * win0_1.size a ≤ (i a : ℕ) ∧ (i a : ℕ) < win0_1.index t0_0 a * win0_1.size a + win0_1.xsize (grid0.coords t0_0) a
  rw [ho, hs, zero_add]
  exact ⟨Nat.zero_le _, (i a).isLt⟩

theorem finalA_out : finalA m ρ c (1 : Fin 2) = outAt m ρ c :=
  (dats m ρ 0 c).arrAt_eq_of_cover (1 : Fin 2) (outAt m ρ c) (fun t _ => out_written m ρ c t) fun i => ⟨t0_0, flush0_1 t0_0, out_covered i⟩

end Arrays

/-! ## Where the blocks start -/

/-- The device whose block group `t` of device `c` takes: `t` places after `c`. -/
def src (c : Dev nD) (t : Fin 8) : Fin 8 := ⟨(c.val + t.val) % 8, Nat.mod_lt _ (by decide)⟩

theorem own_off (c : Dev nD) : k0_off4 c = ![512 * c.val, 0] := by revert c; decide +kernel
theorem send_off : ∀ (c : Dev nD) (k : Fin 7), k0_off1 (up c k) (BitVec.ofNat 32 (1 + k.val)) = ![512 * c.val, 0] := by decide +kernel
theorem w_off : ∀ (c : Dev nD) (t : Fin 8) (h : Bool), woff c t h = ![512 * (src c t).val, if h then 4096 else 0] := by decide +kernel
theorem src_zero (c : Dev nD) : src c 0 = c := by revert c; decide
theorem src_succ (c : Dev nD) (k : Fin 7) : src c k.succ = up c k := by revert c k; decide

/-- Entry `k` of the `j`-th of eight stretches of 512. -/
def at8 (j : Fin 8) (k : Fin 512) : Fin 4096 := ⟨512 * j.val + k.val, by omega⟩
/-- Column `l` of half `h`. -/
def atHalf (h : Bool) (l : Fin 4096) : Fin 8192 := ⟨(if h then 4096 else 0) + l.val, by split <;> omega⟩

theorem x_tiles : Layout.Tiles ⟨2, ![4096, 512]⟩ ⟨2, ![4096, 4096]⟩ 1 8 := by decide
theorem out_tiles : Layout.Tiles ⟨2, ![512, 8192]⟩ ⟨2, ![4096, 8192]⟩ 0 8 := by decide

/-! ## Reading a group's operands -/

section Ideal
variable (m : (ℓ : Loc nD τ sig) → Buf (Elt Ideal) ℓ) (ρ : Dev nD → PrngReg) (c : Dev nD)
variable (X : FVec Ideal ⟨2, ![4096, 4096]⟩ .f32)
variable (hX : ∀ d : Dev nD, m ((d : Thread nD τ).loc main_arg0) = Layout.block ⟨2, ![4096, 512]⟩ ⟨2, ![4096, 4096]⟩ 1 8 d X x_tiles)

include hX in
theorem x_entry (d : Dev nD) (a : Fin 4096) (b : Fin 512) :
    (m ((d : Thread nD τ).loc main_arg0) : FVec Ideal ⟨2, ![4096, 512]⟩ .f32) (ix2 a b) = X (ix2 a (at8 d b)) := by
  rw [hX d]
  refine congrArg X ?_
  funext e
  refine Fin.ext ?_
  match e with
  | ⟨0, _⟩ => rfl
  | ⟨1, _⟩ => show d.val * 512 + b.val = 512 * d.val + b.val; omega

theorem rows_idx (o : Fin 2 → ℕ) (ho : ∀ a, o a + S512x512.size a ≤ S4096x512.size a) (j : Fin 8) (e : o = ![512 * j.val, 0]) (r k : Fin 512) :
    (Rect.unit (s := S4096x512) o S512x512.size ho).idx (ix2 r k) = ix2 (at8 j r) k := by
  subst e
  funext a
  refine Fin.ext ?_
  match a with
  | ⟨0, _⟩ => show 512 * j.val + 1 * r.val = 512 * j.val + r.val; omega
  | ⟨1, _⟩ => show 0 + 1 * k.val = k.val; omega

include hX in
/-- Group `t`'s operand is device `c`'s rows of the block of `x` that group takes. -/
theorem operand_entry (t : Fin 8) (r k : Fin 512) : operand m ρ c t (ix2 r k) = X (ix2 (at8 c r) (at8 (src c t) k)) := by
  refine Fin.cases ?_ (fun k' => ?_) t
  · rw [src_zero, ← x_entry m X hX]
    show (k0_pay2 ((xM.access (ownR c)).read (Elt Ideal) (xstg m ρ c))) (ix2 r k) = _
    unfold k0_pay2
    rw [shapeCast_self]
    rw [← xstg_eq m ρ c]
    exact congrArg (xstg m ρ c) (rows_idx (k0_off4 c) (k0_off4_inb c) c (own_off c) r k)
  · rw [src_succ, ← x_entry m X hX (up c k')]
    show xcast m ρ (up c k') _ = _
    unfold xcast k0_pay1
    rw [shapeCast_self, shapeCast_self]
    rw [← xstg_eq m ρ (up c k')]
    exact congrArg (xstg m ρ (up c k')) (rows_idx _ (k0_off1_inb (up c k') k') c (send_off c k') r k)

/-- Group `t`'s block of `w` is the rows matching the block of `x` it takes. -/
theorem wblk_entry (t : Fin 8) (h : Bool) (k : Fin 512) (l : Fin 4096) :
    wblk m c t h (ix2 k l) = (m ((c : Thread nD τ).loc main_arg1) : FVec Ideal S4096x8192 .f32) (ix2 (at8 (src c t) k) (atHalf h l)) := by
  refine congrArg (m ((c : Thread nD τ).loc main_arg1)) ?_
  have key : ∀ (o : Fin 2 → ℕ) (ho : ∀ a, o a + S512x4096.size a ≤ S4096x8192.size a) (_ : o = ![512 * (src c t).val, if h then 4096 else 0]),
      (Rect.unit (s := S4096x8192) o S512x4096.size ho).idx (ix2 k l) = ix2 (at8 (src c t) k) (atHalf h l) := by
    intro o ho e
    subst e
    funext a
    refine Fin.ext ?_
    match a with
    | ⟨0, _⟩ => show 512 * (src c t).val + 1 * k.val = 512 * (src c t).val + k.val; omega
    | ⟨1, _⟩ => show (if h then 4096 else 0) + 1 * l.val = (if h then 4096 else 0) + l.val; omega
  exact key _ (woff_inb c t h) (w_off c t h)

/-! ## The sum of the groups -/

theorem prod_entry (x : FVec Ideal S512x512 .f32) (w : FVec Ideal S512x4096 .f32) (r : Fin 512) (l : Fin 4096) :
    prod x w (ix2 r l) = ∑ k : Fin 512, x (ix2 r k) * w (ix2 k l) := by
  unfold prod
  rw [matmul_zero_eq_dotGeneral]
  exact StackMember.dotGeneral_plain_apply none x w r l

/-- Half `h` after `n + 1` of the first seven groups: the sum of their products. -/
theorem acc_entry (h : Bool) (r : Fin 512) (l : Fin 4096) (n : ℕ) (hn : n < 7) :
    acc m ρ c h (n + 1) (ix2 r l)
      = ∑ t ∈ (Finset.univ : Finset (Fin 8)).filter (fun t => t.val ≤ n), prod (operand m ρ c t) (wblk m c t h) (ix2 r l) := by
  induction n with
  | zero =>
    rw [show (Finset.univ : Finset (Fin 8)).filter (fun t => t.val ≤ 0) = {0} from by decide, Finset.sum_singleton]
    rfl
  | succ n ih =>
    have hn8 : n + 1 < 8 := by omega
    rw [show (Finset.univ : Finset (Fin 8)).filter (fun t => t.val ≤ n + 1)
        = insert ⟨n + 1, hn8⟩ ((Finset.univ : Finset (Fin 8)).filter (fun t => t.val ≤ n)) from by
      ext t
      simp only [Finset.mem_filter, Finset.mem_univ, true_and, Finset.mem_insert, Fin.ext_iff]
      omega,
      Finset.sum_insert (by simp), ← ih (by omega), add_comm (prod _ _ _)]
    show (if hn : n + 1 < 8 then stepV (F := Ideal) ⟨n + 1, hn⟩ (operand m ρ c ⟨n + 1, hn⟩) (wblk m c ⟨n + 1, hn⟩ h) (acc m ρ c h (n + 1)) else acc m ρ c h (n + 1)) (ix2 r l) = _
    rw [dif_pos hn8]
    unfold stepV
    rw [if_neg (by show ¬ n + 1 = 0; omega), if_neg (by show ¬ n + 1 = 7; omega)]
    rfl

/-- After all eight: that sum, clamped at zero. -/
theorem acc_last (h : Bool) (r : Fin 512) (l : Fin 4096) :
    acc m ρ c h 8 (ix2 r l)
      = FloatOps.maximumf (F := Ideal) (∑ t : Fin 8, prod (operand m ρ c t) (wblk m c t h) (ix2 r l)) (Scalar.ofBits (F := Ideal) .f32 0x00000000#32) := by
  show FloatOps.maximumf (F := Ideal) (acc (F := Ideal) m ρ c h 7 (ix2 r l) + prod (F := Ideal) (operand m ρ c 7) (wblk m c 7 h) (ix2 r l)) (Scalar.ofBits (F := Ideal) .f32 0x00000000#32) = _
  rw [acc_entry m ρ c h r l 6 (by decide),
    show (Finset.univ : Finset (Fin 8)) = insert 7 ((Finset.univ : Finset (Fin 8)).filter fun t => t.val ≤ 6) from by decide,
    Finset.sum_insert (by decide), add_comm (prod _ _ _)]
  rfl

/-- The blocks from the `c`-th on, in turn, are all the blocks; their entries are all the entries. -/
theorem sum_blocks (c : Dev nD) {A : Type} [AddCommMonoid A] (f : Fin 4096 → A) : (∑ t : Fin 8, ∑ k : Fin 512, f (at8 (src c t) k)) = ∑ k : Fin 4096, f k := by
  have hb : Function.Bijective (src c) := by revert c; decide
  rw [Function.Bijective.sum_comp hb (fun j => ∑ k : Fin 512, f (at8 j k)), ← Fintype.sum_prod_type']
  exact Fintype.sum_equiv (finProdFinEquiv : Fin 8 × Fin 512 ≃ Fin 4096) _ _ fun p => congrArg f (Fin.ext (by
    show 512 * p.1.val + p.2.val = p.2.val + 512 * p.1.val; omega))

/-! ## The result is the reference's block -/

/-- The reference's value, as its program computes it. -/
def refOut (X : FVec Ideal ⟨2, ![4096, 4096]⟩ .f32) (W : FVec Ideal S4096x8192 .f32) : FVec Ideal S4096x8192 .f32 :=
  maximumf (Host.dotGeneral Cert.ReferenceIdeal.dot_S4096x4096_S4096x8192_S4096x8192_1_0_0_1_n_n none X W)
    (broadcastInDim Cert.ReferenceIdeal.S4096x8192 ![] Cert.ReferenceIdeal.Gen.bcast_S_S4096x8192 (constant Cert.ReferenceIdeal.S_ .f32 0x00000000#32))

theorem refOut_entry (X : FVec Ideal ⟨2, ![4096, 4096]⟩ .f32) (W : FVec Ideal S4096x8192 .f32) (a : Fin 4096) (b : Fin 8192) :
    refOut X W (ix2 a b) = FloatOps.maximumf (F := Ideal) (∑ k : Fin 4096, X (ix2 a k) * W (ix2 k b)) (Scalar.ofBits (F := Ideal) .f32 0x00000000#32) := by
  rw [← StackMember.dotGeneral_plain_apply none X W a b]
  rfl

include hX in
/-- One entry of half `h`, after all eight groups: the reference's entry in device `c`'s block of rows. -/
theorem half_entry (c : Dev nD) (h : Bool) (r : Fin 512) (l : Fin 4096) :
    acc m ρ c h 8 (ix2 r l) = refOut X (m ((c : Thread nD τ).loc main_arg1)) (ix2 (at8 c r) (atHalf h l)) := by
  rw [refOut_entry, acc_last, ← sum_blocks c]
  refine congrArg (fun q => FloatOps.maximumf (F := Ideal) (φ := .f32) q (Scalar.ofBits (F := Ideal) .f32 0x00000000#32)) ?_
  refine Finset.sum_congr rfl fun t _ => ?_
  rw [prod_entry]
  refine Finset.sum_congr rfl fun k _ => ?_
  rw [operand_entry m ρ c X hX, wblk_entry]

include hX in
theorem outAt_eq (c : Dev nD) :
    outAt m ρ c = Layout.block ⟨2, ![512, 8192]⟩ ⟨2, ![4096, 8192]⟩ 0 8 c (refOut X (m ((c : Thread nD τ).loc main_arg1))) out_tiles := by
  funext i
  refine (half_entry m ρ X hX c (colHalf (i 1)) (i 0) (colIn (i 1))).trans (congrArg (refOut X (m ((c : Thread nD τ).loc main_arg1))) ?_)
  funext a
  refine Fin.ext ?_
  match a with
  | ⟨0, _⟩ => show 512 * c.val + (i 0).val = c.val * 512 + (i 0).val; omega
  | ⟨1, _⟩ =>
    have e := congrArg (fun q : (⟨2, ![512, 8192]⟩ : Shape).Idx => (q 1).val) (half_idx i)
    have e' : (if colHalf (i 1) = true then 4096 else 0) + 1 * (colIn (i 1)).val = (i 1).val := e
    show (if colHalf (i 1) = true then 4096 else 0) + (colIn (i 1)).val = (i 1).val
    omega

end Ideal

end Cert.Proof
-- ==== Proof.lean ====
/-
# The claims

The run of the mesh (Proof/Launch.lean) gives both frames of the kernel; with the values over the reals
(Proof/Values.lean) it gives the equation with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem

/-- The run over any floats: the arguments unchanged, every semaphore back at zero. -/
theorem run_frame {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  (θ_run (Cert.KernelIdeal.defs (F := F)) _ _).mono
    (fun _ h => ⟨fun c => ⟨((h.1 c).1 (0 : Fin 2)).trans (finalA_x m g c), (h.1 c).2⟩, h.2⟩) (run_mesh (F := F) m g)

set_option smartUnfolding false in
/-- The kernel at device words is the same program as over the reals, so the same run is its run. -/
theorem frame_kernel : Cert.quiescent_Kernel := fun m g _ => run_frame (F := Bits) m g

theorem frame_kernelIdeal : Cert.quiescent_KernelIdeal := fun m g _ => run_frame (F := Ideal) m g

/-- The reference names no semaphore at all. -/
theorem frame_referenceIdeal : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

/-- Every device ends with its block of rows of the reference's result. -/
theorem algebraic_holds : Cert.algebraic_KernelIdeal_ReferenceIdeal := fun m g m' g' _ hagree =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun _ h c => ⟨((h.1 c).1 (1 : Fin 2)).trans ((finalA_out m g c).trans
          ((outAt_eq m g _ (fun d => (hagree d).1) c).trans (congrArg (fun w => Layout.block _ _ 0 8 c (refOut _ w)) (hagree c).2))),
        ((h.1 c).1 (0 : Fin 2)).trans (finalA_x m g c), (h.1 c).2⟩)
      (run_mesh (F := Ideal) m g),
    (θ_run (Cert.ReferenceIdeal.defs (F := Ideal)) _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts,
    frame_kernel, frame_kernelIdeal, frame_referenceIdeal, trivial, algebraic_holds⟩

end Cert.Proof

end
